-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S256x512 : Shape := ⟨2, ![256, 512]⟩
abbrev S4 : Shape := ⟨1, ![4]⟩
abbrev S_ : Shape := ⟨0, ![]⟩
abbrev S1x256x512 : Shape := ⟨3, ![1, 256, 512]⟩
abbrev S1 : Shape := ⟨1, ![1]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S1x512x512, .bf16⟩
  | .hbm, ⟨1, _⟩ => ⟨S512x512, .f32⟩
  | .hbm, ⟨2, _⟩ => ⟨S512, .bf16⟩
  | .hbm, ⟨3, _⟩ => ⟨S512x512, .bf16⟩
  | .local _ .vmem, ⟨0, _⟩ => ⟨S1x512x512, .bf16⟩
  | .local _ .vmem, ⟨1, _⟩ => ⟨S512, .bf16⟩
  | .local _ .vmem, ⟨2, _⟩ => ⟨S512x512, .bf16⟩
  | .local _ .vmem, ⟨3, _⟩ => ⟨S256x512, .bf16⟩
  | .local _ .vmem, ⟨4, _⟩ => ⟨S512x512, .bf16⟩
  | .local _ .vmem, ⟨5, _⟩ => ⟨S512x512, .f32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v15 : BitVec 32 := Scalar.muli v2 c4_i32_8
  let v16 : BitVec 32 := Scalar.addi c0_i32 v15
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v17 : BitVec 32 := Scalar.muli v9 c2_i32_9
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.muli v8 c1_i32_10
  let v20 : BitVec 32 := Scalar.addi v18 v19
  v20.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v21 : BitVec 32 := Scalar.muli v10 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off1 (d0 : Dev nD) : Fin 3 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v27 : Index := Scalar.indexCast v11
  let c0_16 : Index := 0#32
  ![0, v27.toNat, 0]
def k0_off2 (d0 : Dev nD) (c0_i32_20 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v33 : BitVec 32 := Scalar.addi v11 c0_i32_20
  let c0_i32_27 : BitVec 32 := 0#32
  ![v33.toNat, 0]
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v34 : BitVec 32 := Scalar.muli v2 c4_i32_23
  let v35 : BitVec 32 := Scalar.addi c0_i32_24 v34
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_25 : BitVec 32 := 2#32
  let v36 : BitVec 32 := Scalar.muli v9 c2_i32_25
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v38 : BitVec 32 := Scalar.muli v8 c1_i32_26
  let v39 : BitVec 32 := Scalar.addi v37 v38
  v39.toNat
def k0_dev4 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v47 : BitVec 32 := Scalar.muli v2 c4_i32_32
  let v48 : BitVec 32 := Scalar.addi c0_i32_33 v47
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v49 : BitVec 32 := Scalar.muli v9 c2_i32_34
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v51 : BitVec 32 := Scalar.muli v8 c1_i32_35
  let v52 : BitVec 32 := Scalar.addi v50 v51
  v52.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v60 : BitVec 32 := Scalar.muli v2 c4_i32_41
  let v61 : BitVec 32 := Scalar.addi c0_i32_42 v60
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_43 : BitVec 32 := 2#32
  let v62 : BitVec 32 := Scalar.muli v9 c2_i32_43
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v64 : BitVec 32 := Scalar.muli v8 c1_i32_44
  let v65 : BitVec 32 := Scalar.addi v63 v64
  v65.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v73 : BitVec 32 := Scalar.muli v2 c4_i32_49
  let v74 : BitVec 32 := Scalar.addi c0_i32_50 v73
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v75 : BitVec 32 := Scalar.muli v9 c2_i32_51
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v77 : BitVec 32 := Scalar.muli v8 c1_i32_52
  let v78 : BitVec 32 := Scalar.addi v76 v77
  v78.toNat
def k0_dev7 (d0 : Dev nD) : Nat :=
  let c0_i32_76 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_75 : BitVec 32 := 4#32
  let v101 : BitVec 32 := Scalar.muli v10 c4_i32_75
  let v102 : BitVec 32 := Scalar.addi c0_i32_76 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v103 : BitVec 32 := Scalar.muli v5 c2_i32_77
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v105 : BitVec 32 := Scalar.muli v8 c1_i32_78
  let v106 : BitVec 32 := Scalar.addi v104 v105
  v106.toNat
def k0_off3 (d0 : Dev nD) (c0_i32_81 : BitVec 32) : Fin 3 → Nat :=
  let c0_82 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v113 : BitVec 32 := Scalar.addi v11 c0_i32_81
  let v114 : Index := Scalar.indexCast v113
  let c0_83 : Index := 0#32
  ![0, v114.toNat, 0]
def k0_off4 (d0 : Dev nD) (c0_i32_81 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v113 : BitVec 32 := Scalar.addi v11 c0_i32_81
  let v117 : Index := Scalar.indexCast v113
  let c0_84 : Index := 0#32
  ![v117.toNat, 0]
def k0_dev8 (d0 : Dev nD) : Nat :=
  let c0_i32_110 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_109 : BitVec 32 := 4#32
  let v160 : BitVec 32 := Scalar.muli v10 c4_i32_109
  let v161 : BitVec 32 := Scalar.addi c0_i32_110 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v162 : BitVec 32 := Scalar.muli v5 c2_i32_111
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v164 : BitVec 32 := Scalar.muli v8 c1_i32_112
  let v165 : BitVec 32 := Scalar.addi v163 v164
  v165.toNat
def k0_dev9 (d0 : Dev nD) : Nat :=
  let c0_i32_145 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_144 : BitVec 32 := 4#32
  let v219 : BitVec 32 := Scalar.muli v10 c4_i32_144
  let v220 : BitVec 32 := Scalar.addi c0_i32_145 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v221 : BitVec 32 := Scalar.muli v5 c2_i32_146
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v223 : BitVec 32 := Scalar.muli v8 c1_i32_147
  let v224 : BitVec 32 := Scalar.addi v222 v223
  v224.toNat
def k0_dev10 (d0 : Dev nD) : Nat :=
  let c0_i32_180 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_179 : BitVec 32 := 4#32
  let v278 : BitVec 32 := Scalar.muli v10 c4_i32_179
  let v279 : BitVec 32 := Scalar.addi c0_i32_180 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v280 : BitVec 32 := Scalar.muli v5 c2_i32_181
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v282 : BitVec 32 := Scalar.muli v8 c1_i32_182
  let v283 : BitVec 32 := Scalar.addi v281 v282
  v283.toNat
def k0_off5 (d0 : Dev nD) (c0_i32_196 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c256_i32_6 : BitVec 32 := 256#32
  let v13 : BitVec 32 := Scalar.muli v12 c256_i32_6
  let v322 : BitVec 32 := Scalar.addi v13 c0_i32_196
  let c0_i32_203 : BitVec 32 := 0#32
  ![v322.toNat, 0]
def k0_off6 (d0 : Dev nD) (c0_i32_205 : BitVec 32) : Fin 3 → Nat :=
  let c0_206 : Index := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c256_i32_6 : BitVec 32 := 256#32
  let v13 : BitVec 32 := Scalar.muli v12 c256_i32_6
  let v333 : BitVec 32 := Scalar.addi v13 c0_i32_205
  let v334 : Index := Scalar.indexCast v333
  let c0_207 : Index := 0#32
  ![0, v334.toNat, 0]
def k0_off7 (d0 : Dev nD) (c0_i32_205 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c256_i32_6 : BitVec 32 := 256#32
  let v13 : BitVec 32 := Scalar.muli v12 c256_i32_6
  let v333 : BitVec 32 := Scalar.addi v13 c0_i32_205
  let v337 : Index := Scalar.indexCast v333
  let c0_208 : Index := 0#32
  ![v337.toNat, 0]
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x512, .f32⟩
  | .hbm, ⟨2, _⟩ => ⟨S512, .bf16⟩
  | .hbm, ⟨3, _⟩ => ⟨S2x512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x512, .f32⟩
  | .hbm, ⟨19, _⟩ => ⟨S512x512, .f32⟩
  | .hbm, ⟨20, _⟩ => ⟨S512, .f32⟩
  | .hbm, ⟨21, _⟩ => ⟨S1x512, .f32⟩
  | .hbm, ⟨22, _⟩ => ⟨S512x512, .f32⟩
  | .hbm, ⟨23, _⟩ => ⟨S512x512, .f32⟩
  | .hbm, ⟨24, _⟩ => ⟨S512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Norm.lean ====
/-
# The normalisation, over the extended reals

Multiplying by the reciprocal of a root is dividing by the root wherever the radicand is positive, infinity included; and the
radicand of the normalisation, a mean of squares plus a positive constant, is positive whatever the row holds. So the two
programs' forms of the normalisation agree with no hypothesis on the row.
-/
module

public import Idealize.ShloMosaic.Lib.Pointwise

@[expose] public section

noncomputable section

namespace Cert.AllReduceNorm

open Idealize.ShloMosaic

/-- At a positive radicand, `a` times the reciprocal root is `a` over the root. -/
theorem mul_rsqrt_eq_div_sqrt {x : EReal} (h : 0 < x) (a : EReal) : a * Ideal.rsqrt x = Ideal.div a (Ideal.sqrt x) := by
  induction x with
  | bot => exact absurd h not_lt_bot
  | top => simp [Ideal.div]
  | coe r =>
    have hr : 0 < r := EReal.coe_pos.mp h
    have hs : Real.sqrt r ≠ 0 := (Real.sqrt_pos.mpr hr).ne'
    rw [Ideal.rsqrt_coe, Ideal.sqrt_coe, if_neg hr.not_gt, if_neg hr.ne', if_neg hr.not_gt, Ideal.div_coe hs, one_div]

/-- A square is nonnegative, an infinity's too. -/
theorem sq_nonneg_ereal (a : EReal) : 0 ≤ a * a := by
  induction a with
  | bot => simp
  | top => simp
  | coe r => rw [← EReal.coe_mul]; exact EReal.coe_nonneg.mpr (mul_self_nonneg r)

/-- The row's length, -/
theorem len_word : Ideal.ofBits .f32 0x44000000#32 = ((512 : ℝ) : EReal) := by
  simp [Ideal.ofBits, Ideal.ieee, -EReal.coe_mul]; norm_num
/-- and the constant added to the mean, are positive. -/
theorem eps_word : (0 : EReal) < Ideal.ofBits .f32 0x358637BD#32 := by
  simp [Ideal.ofBits, Ideal.ieee, -EReal.coe_mul]

/-- The radicand of a row: the mean of its squares plus the constant. -/
def radicand (y : Fin 512 → EReal) : EReal :=
  Ideal.div (∑ k, y k * y k) (Ideal.ofBits .f32 0x44000000#32) + Ideal.ofBits .f32 0x358637BD#32

theorem radicand_pos (y : Fin 512 → EReal) : 0 < radicand y := by
  have hS : (0 : EReal) ≤ ∑ k, y k * y k := Finset.sum_nonneg fun k _ => sq_nonneg_ereal (y k)
  have hd : (0 : EReal) ≤ Ideal.div (∑ k, y k * y k) (Ideal.ofBits .f32 0x44000000#32) := by
    rw [len_word, Ideal.div_coe (by norm_num)]
    exact mul_nonneg hS (EReal.coe_nonneg.mpr (by norm_num))
  exact lt_of_lt_of_le eps_word (le_add_of_nonneg_left hd)

/-- The normalised element `j` of the row `y` under the weight `g`, as the kernel writes it; -/
def scaled (y : Fin 512 → EReal) (g : EReal) (j : Fin 512) : EReal := y j * Ideal.rsqrt (radicand y) * g
/-- as the reference does. -/
theorem scaled_eq (y : Fin 512 → EReal) (g : EReal) (j : Fin 512) : scaled y g j = Ideal.div (y j) (Ideal.sqrt (radicand y)) * g := by
  rw [scaled, mul_rsqrt_eq_div_sqrt (radicand_pos y)]

end Cert.AllReduceNorm

end
-- ==== Proof.Walk.lean ====
/-
# The kernel's body as one walk over four row blocks per half

A device's `512 × 512` block of `partial` falls into two halves of 256 rows: the rows `[256·x, 256·x + 256)` the device
exchanges with its neighbour along y (`x` its place along the mesh axis x), and the other half, which its neighbour along x
forwards to it. Each half is cut into four blocks of 64 rows. This module names the buffers, the semaphores by
(leg, block) and the body's operations by block, and shows that the printed body is that walk.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduceNorm

open Cert.KernelIdeal Cert.KernelIdeal.Gen
open Idealize.ShloMosaic Idealize.ShloMosaic.TcCoe
open Idealize.SL Idealize.SL.Sem

variable {F : FTy → Type} [FloatOps F]

/-! ## The buffers -/

/-- The device's block of `partial`, the weights and the result, in their staging buffers; -/
abbrev pM : Memref sig .tc .vmem S1x512x512 .bf16 := Memref.whole cc0_stg0_0
abbrev gM : Memref sig .tc .vmem S512 .bf16 := Memref.whole cc0_stg1_0
abbrev oM : Memref sig .tc .vmem S512x512 .bf16 := Memref.whole cc0_stg2_0
/-- the residual in HBM and its copy in VMEM; -/
abbrev xM : Memref sig .tc .hbm S512x512 .f32 := Memref.whole main_arg1
abbrev rM : Memref sig .tc .vmem S512x512 .f32 := Memref.whole cc0_scratch2
/-- the half that is sent, and the buffer the neighbours' rows land in. -/
abbrev sM : Memref sig .tc .vmem S256x512 .bf16 := Memref.whole cc0_scratch0
abbrev vM : Memref sig .tc .vmem S512x512 .bf16 := Memref.whole cc0_scratch1

/-! ## The semaphores -/

/-- The runtime's barrier semaphore. -/
abbrev barS : Sem sig := (SemArray.scalar (sig.barrier 0 rfl) : Sems sig S_).sem
set_option backward.proofsInPublic true in
/-- The semaphores of block `r`: of the exchange along y (the sender's and the receiver's), -/
abbrev ySend (r : Fin 4) : DmaSem sig := ⟨3 + r.val, by have := r.isLt; show 3 + r.val < 20; omega⟩
set_option backward.proofsInPublic true in
abbrev yRecv (r : Fin 4) : DmaSem sig := ⟨7 + r.val, by have := r.isLt; show 7 + r.val < 20; omega⟩
set_option backward.proofsInPublic true in
/-- of the forward along x (the sender's and the receiver's), -/
abbrev fSend (r : Fin 4) : DmaSem sig := ⟨11 + r.val, by have := r.isLt; show 11 + r.val < 20; omega⟩
set_option backward.proofsInPublic true in
abbrev fRecv (r : Fin 4) : DmaSem sig := ⟨15 + r.val, by have := r.isLt; show 15 + r.val < 20; omega⟩
set_option backward.proofsInPublic true in
/-- and of the residual's local copy. -/
abbrev copyS : DmaSem sig := ⟨19, by decide⟩

/-! ## The blocks the transfers move -/

/-- Block `r`'s first row within its half, as the program's word. -/
abbrev row (r : Fin 4) : BitVec 32 := BitVec.ofNat 32 (64 * r.val)

theorem inb_s (r : Fin 4) : ∀ a, (![64 * r.val, 0] : Fin 2 → Nat) a + S64x512.size a ≤ S256x512.size a := by
  revert r; decide
theorem words_s (r : Fin 4) : (Rect.unit (s := S256x512) ![64 * r.val, 0] S64x512.size (inb_s r)).WholeWords (EltTy.packing .bf16) := by
  revert r; decide

/-- Block `r` of the half that is sent; -/
abbrev sBlk (r : Fin 4) : Memref sig .tc .vmem S64x512 .bf16 :=
  sM.slice (Rect.unit (s := S256x512) ![64 * r.val, 0] S64x512.size (inb_s r)) (fun _ => rfl)
/-- block `r` of device `d`'s y half in the landing buffer (the forward along x sends it on from there); -/
abbrev hBlk (d : Dev nD) (r : Fin 4) : Memref sig .tc .vmem S64x512 .bf16 :=
  vM.slice (Rect.unit (s := S512x512) (k0_off2 d (row r)) S64x512.size (k0_off2_inb d r)) (fun _ => rfl)
/-- block `r` of device `d`'s other half in the landing buffer. -/
abbrev cBlk (d : Dev nD) (r : Fin 4) : Memref sig .tc .vmem S64x512 .bf16 :=
  vM.slice (Rect.unit (s := S512x512) (k0_off5 d (row r)) S64x512.size (k0_off5_inb d r)) (fun _ => rfl)

theorem whole (b : Ref sig .tc) : (Memref.whole b).IsWhole := Memref.isWhole_whole b

/-! ## The walk -/

/-- The programs the body is written in. -/
abbrev Body (F : FTy → Type) : Type 1 := Prog (TpuEff nD τ sig (Elt F) Λ₀ .tc) PUnit

/-- Send block `r` of the half to device `n`. -/
def sendBlock (c n : Dev nD) (r : Fin 4) (k : Body F) : Body F :=
  .op (.enqueueDma (sBlk r) (.remote (Dev.tc n) (hBlk c r) (.dma (ySend r))) (.dma (yRecv r))
    ((whole cc0_scratch0).wordExact_slice rfl _ (words_s r)) ((whole cc0_scratch1).wordExact_slice rfl _ (k0_off2_wordsbf16 c r))
    ⟨⟨rfl, Or.inl rfl⟩, trivial⟩) fun _ => k

/-- Both waits of block `r`'s exchange along y: its own send, then the neighbour's rows. -/
def takeBlock (c : Dev nD) (r : Fin 4) (k : Body F) : Body F :=
  .op (.waitDma2 (ySend r) (hBlk c r) (sBlk r) ((whole cc0_scratch1).wordExact_slice rfl _ (k0_off2_wordsbf16 c r))
    ((whole cc0_scratch0).wordExact_slice rfl _ (words_s r))) fun _ =>
  .op (.waitDma2 (yRecv r) (sBlk r) (hBlk c r) ((whole cc0_scratch0).wordExact_slice rfl _ (words_s r))
    ((whole cc0_scratch1).wordExact_slice rfl _ (k0_off2_wordsbf16 c r))) fun _ => k

/-- Forward the rows just received in block `r` to device `n`. -/
def passBlock (c n : Dev nD) (r : Fin 4) (k : Body F) : Body F :=
  .op (.enqueueDma (hBlk c r) (.remote (Dev.tc n) (hBlk c r) (.dma (fSend r))) (.dma (fRecv r))
    ((whole cc0_scratch1).wordExact_slice rfl _ (k0_off2_wordsbf16 c r)) ((whole cc0_scratch1).wordExact_slice rfl _ (k0_off2_wordsbf16 c r))
    ⟨⟨rfl, Or.inl rfl⟩, trivial⟩) fun _ => k

/-- Wait for block `r` of the other half. -/
def landBlock (c : Dev nD) (r : Fin 4) (k : Body F) : Body F :=
  .op (.waitDma2 (fRecv r) (cBlk c r) (cBlk c r) ((whole cc0_scratch1).wordExact_slice rfl _ (k0_off5_wordsbf16 c r))
    ((whole cc0_scratch1).wordExact_slice rfl _ (k0_off5_wordsbf16 c r))) fun _ => k

/-- Wait for the forward of block `r` to have left. -/
def drainBlock (c : Dev nD) (r : Fin 4) (k : Body F) : Body F :=
  .op (.waitDma2 (fSend r) (hBlk c r) (hBlk c r) ((whole cc0_scratch1).wordExact_slice rfl _ (k0_off2_wordsbf16 c r))
    ((whole cc0_scratch1).wordExact_slice rfl _ (k0_off2_wordsbf16 c r))) fun _ => k

/-- The rectangle of 64 rows from an offset on, in the device's block of `partial` and in the buffers of its shape. -/
abbrev pRect (o : Fin 3 → ℕ) (h : ∀ a, o a + S1x64x512.size a ≤ S1x512x512.size a) : Rect S1x512x512 :=
  Rect.unit (s := S1x512x512) o S1x64x512.size h
abbrev dRect (o : Fin 2 → ℕ) (h : ∀ a, o a + S64x512.size a ≤ S512x512.size a) : Rect S512x512 :=
  Rect.unit (s := S512x512) o S64x512.size h

/-- Normalise the 64 rows at an offset: load them from `partial`, from the landing buffer and from the residual, load the
    weights, store the normalised rows. (The load of the result's rows is printed and not used.) -/
def normRows (o₃ : Fin 3 → ℕ) (h₃ : ∀ a, o₃ a + S1x64x512.size a ≤ S1x512x512.size a)
    (o₂ : Fin 2 → ℕ) (h₂ : ∀ a, o₂ a + S64x512.size a ≤ S512x512.size a)
    (hp : (dRect o₂ h₂).PackedRows (EltTy.packing .bf16)) (k : Body F) : Body F :=
  .op (.load pM (pRect o₃ h₃).toLoadRect (View.loadsAt_vmem h_S1x64x512)) fun p =>
  .op (.load vM (dRect o₂ h₂).toLoadRect (View.loadsAt_vmem h_S64x512)) fun v =>
  .op (.load rM (dRect o₂ h₂).toLoadRect (View.loadsAt_vmem h_S64x512)) fun x =>
  .op (.load gM (Rect.unit (s := S512) ![0] S512.size inb_S512_S512_0).toLoadRect (View.loadsAt_vmem h_S512)) fun g =>
  .op (.load oM (dRect o₂ h₂).toLoadRect (View.loadsAt_vmem h_S64x512)) fun _ =>
  .op (.store oM (dRect o₂ h₂) (k0_pay6 p v x g) Finset.univ
    (View.stores_vmem h_S64x512 ((whole cc0_stg2_0).storeExact_slice rfl _ hp) (fun _ => rfl)) (.inl rfl)) fun _ => k

/-- Normalise block `r` of the y half, and of the other half. -/
abbrev normH (c : Dev nD) (r : Fin 4) (k : Body F) : Body F :=
  normRows (k0_off3 c (row r)) (k0_off3_inb c r) (k0_off4 c (row r)) (k0_off4_inb c r) (k0_off4_packedbf16 c r) k
abbrev normC (c : Dev nD) (r : Fin 4) (k : Body F) : Body F :=
  normRows (k0_off6 c (row r)) (k0_off6_inb c r) (k0_off7 c (row r)) (k0_off7_inb c r) (k0_off7_packedbf16 c r) k

/-- Block `r` of the y half: its two waits, its forward to `n`, its rows normalised. -/
def stepH (c n : Dev nD) (r : Fin 4) (k : Body F) : Body F := takeBlock c r (passBlock c n r (normH c r k))
/-- Block `r` of the other half: its wait, its rows normalised. -/
def stepC (c : Dev nD) (r : Fin 4) (k : Body F) : Body F := landBlock c r (normC c r k)

/-- The rectangle of the half that is sent, in the device's block of `partial`; the buffer it is put in, whole. -/
abbrev halfRect (c : Dev nD) : Rect S1x512x512 := Rect.unit (s := S1x512x512) (k0_off1 c) S1x256x512.size (k0_off1_inb c)
abbrev sRect : Rect S256x512 := Rect.unit (s := S256x512) ![0, 0] S256x512.size inb_S256x512_S256x512_0_0

/-- The entry: both neighbours signalled, the residual's copy started, the half put in the send buffer, the handshake awaited. -/
def enter (c n₁ n₂ : Dev nD) (k : Body F) : Body F :=
  .op (.semSignal ((Dev.tc n₁ : Thread nD τ)) barS (1#32).toInt) fun _ =>
  .op (.semSignal ((Dev.tc n₂ : Thread nD τ)) barS (1#32).toInt) fun _ =>
  .op (.enqueueDma xM (.here rM) (.dma copyS) (whole main_arg1).wordExact (whole cc0_scratch2).wordExact ⟨Or.inl rfl, trivial⟩) fun _ =>
  .op (.load pM (halfRect c).toLoadRect (View.loadsAt_vmem h_S1x256x512)) fun p =>
  .op (.load sM sRect.toLoadRect (View.loadsAt_vmem h_S256x512)) fun _ =>
  .op (.store sM sRect (k0_pay2 (k0_pay1 p)) Finset.univ
    (View.stores_vmem h_S256x512 ((whole cc0_scratch0).storeExact_slice rfl _ packedbf16_S256x512_S256x512_0_0) (fun _ => rfl)) (.inl rfl)) fun _ =>
  .op (.semWait barS (2#32).toInt) fun _ => k

/-- Wait for the residual's copy. -/
def awaitResid (k : Body F) : Body F :=
  .op (.waitDma2 copyS xM rM (whole main_arg1).wordExact (whole cc0_scratch2).wordExact) fun _ => k

/-- The whole body on device `c`. -/
def walk (c : Dev nD) : Body F :=
  enter c ⟨k0_dev1 c, k0_dev1_lt c⟩ ⟨k0_dev2 c, k0_dev2_lt c⟩ <|
  sendBlock c ⟨k0_dev3 c, k0_dev3_lt c⟩ 0 <| sendBlock c ⟨k0_dev4 c, k0_dev4_lt c⟩ 1 <|
  sendBlock c ⟨k0_dev5 c, k0_dev5_lt c⟩ 2 <| sendBlock c ⟨k0_dev6 c, k0_dev6_lt c⟩ 3 <|
  awaitResid <|
  stepH c ⟨k0_dev7 c, k0_dev7_lt c⟩ 0 <| stepH c ⟨k0_dev8 c, k0_dev8_lt c⟩ 1 <|
  stepH c ⟨k0_dev9 c, k0_dev9_lt c⟩ 2 <| stepH c ⟨k0_dev10 c, k0_dev10_lt c⟩ 3 <|
  stepC c 0 <| stepC c 1 <| stepC c 2 <| stepC c 3 <|
  drainBlock c 0 <| drainBlock c 1 <| drainBlock c 2 <| drainBlock c 3 <| .ret ⟨⟩

set_option maxRecDepth 65536 in
set_option maxHeartbeats 4000000 in
/-- The printed body reads its device and walks. -/
theorem body_eq_walk :
    (cc0_body pM (whole _) xM (whole _) gM (whole _) oM (whole _) sM (whole _) vM (whole _) rM (whole _)
      cc0_scratch3 cc0_scratch4 cc0_scratch5 cc0_scratch6 cc0_scratch7 : Body F) = .op .deviceId walk := by
  rfl

end Cert.AllReduceNorm

end
-- ==== Proof.Blocks.lean ====
/-
# Devices, row blocks and contents

A device's two neighbours; the eight blocks of 64 rows its buffers are cut into, four of the half it exchanges along y (`hB`)
and four of the half it is forwarded along x (`cB`); what the send buffer, the landing buffer and the result hold once
written, as functions of what the devices held at the start; and how a load, a store and a transfer of one block read and
write them.
-/
module

public import proofs.«01_k».proof.Proof.Walk
public import proofs.«01_k».proof.Proof.Gen.KernelIdeal.Points
public import Idealize.ShloMosaic.Lib.ValueLayout

@[expose] public section

noncomputable section

namespace Cert.AllReduceNorm

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The neighbours -/

set_option backward.proofsInPublic true in
/-- The neighbour along y. -/
def ynbr (c : Dev nD) : Dev nD :=
  ⟨(4 * (c.val / 4) + c.val % 2 + 2) - 2 * ((c.val / 2) % 2), by have := c.isLt; have : nD = 8 := rfl; omega⟩
set_option backward.proofsInPublic true in
/-- The neighbour along x. -/
def xnbr (c : Dev nD) : Dev nD :=
  ⟨(2 * ((c.val / 2) % 2) + c.val % 2 + 4) - 4 * (c.val / 4), by have := c.isLt; have : nD = 8 := rfl; omega⟩

theorem ynbr_ynbr (c : Dev nD) : ynbr (ynbr c) = c := by revert c; decide
theorem xnbr_xnbr (c : Dev nD) : xnbr (xnbr c) = c := by revert c; decide
theorem ynbr_ne_xnbr (c : Dev nD) : ynbr c ≠ xnbr c := by revert c; decide
/-- The neighbour along y has the same half to exchange, the neighbour along x the other. -/
theorem ynbr_x (c : Dev nD) : (ynbr c).val / 4 = c.val / 4 := by revert c; decide
theorem xnbr_x (c : Dev nD) : (xnbr c).val / 4 = 1 - c.val / 4 := by revert c; decide

theorem dev1_eq (c : Dev nD) : (⟨k0_dev1 c, k0_dev1_lt c⟩ : Dev nD) = ynbr c := Fin.ext (k0_dev1_eq c)
theorem dev2_eq (c : Dev nD) : (⟨k0_dev2 c, k0_dev2_lt c⟩ : Dev nD) = xnbr c := Fin.ext (k0_dev2_eq c)
theorem dev3_eq (c : Dev nD) : (⟨k0_dev3 c, k0_dev3_lt c⟩ : Dev nD) = ynbr c := Fin.ext (k0_dev3_eq c)
theorem dev4_eq (c : Dev nD) : (⟨k0_dev4 c, k0_dev4_lt c⟩ : Dev nD) = ynbr c := Fin.ext (k0_dev4_eq c)
theorem dev5_eq (c : Dev nD) : (⟨k0_dev5 c, k0_dev5_lt c⟩ : Dev nD) = ynbr c := Fin.ext (k0_dev5_eq c)
theorem dev6_eq (c : Dev nD) : (⟨k0_dev6 c, k0_dev6_lt c⟩ : Dev nD) = ynbr c := Fin.ext (k0_dev6_eq c)
theorem dev7_eq (c : Dev nD) : (⟨k0_dev7 c, k0_dev7_lt c⟩ : Dev nD) = xnbr c := Fin.ext (k0_dev7_eq c)
theorem dev8_eq (c : Dev nD) : (⟨k0_dev8 c, k0_dev8_lt c⟩ : Dev nD) = xnbr c := Fin.ext (k0_dev8_eq c)
theorem dev9_eq (c : Dev nD) : (⟨k0_dev9 c, k0_dev9_lt c⟩ : Dev nD) = xnbr c := Fin.ext (k0_dev9_eq c)
theorem dev10_eq (c : Dev nD) : (⟨k0_dev10 c, k0_dev10_lt c⟩ : Dev nD) = xnbr c := Fin.ext (k0_dev10_eq c)

/-! ## The blocks of rows -/

set_option backward.proofsInPublic true in
/-- Block `r` of the half device `c` exchanges along y, among the eight; -/
def hB (c : Dev nD) (r : Fin 4) : Fin 8 := ⟨4 * (c.val / 4) + r.val, by have := c.isLt; have : nD = 8 := rfl; omega⟩
set_option backward.proofsInPublic true in
/-- block `r` of its other half. -/
def cB (c : Dev nD) (r : Fin 4) : Fin 8 := ⟨(r.val + 4) - 4 * (c.val / 4), by have := c.isLt; have : nD = 8 := rfl; omega⟩

theorem hB_ynbr (c : Dev nD) (r : Fin 4) : hB (ynbr c) r = hB c r := Fin.ext (by simp only [hB, ynbr_x])
theorem cB_xnbr (c : Dev nD) (r : Fin 4) : cB (xnbr c) r = hB c r := by revert c r; decide
theorem hB_xnbr (c : Dev nD) (r : Fin 4) : hB (xnbr c) r = cB c r := by revert c r; decide

/-- The elements of block `b` of a `512 × 512` buffer, of block `r` of the send buffer. -/
def rows (b : Fin 8) : Finset S512x512.Idx := Finset.univ.filter fun i => (i 0).val / 64 = b.val
def sRows (r : Fin 4) : Finset S256x512.Idx := Finset.univ.filter fun i => (i 0).val / 64 = r.val

theorem mem_rows {b : Fin 8} {i : S512x512.Idx} : i ∈ rows b ↔ (i 0).val / 64 = b.val := by simp [rows]
theorem mem_sRows {r : Fin 4} {i : S256x512.Idx} : i ∈ sRows r ↔ (i 0).val / 64 = r.val := by simp [sRows]

theorem rows_disjoint {b b' : Fin 8} (h : b ≠ b') : Disjoint (rows b) (rows b') :=
  Finset.disjoint_left.mpr fun i hi hi' => h (Fin.ext ((mem_rows.mp hi).symm.trans (mem_rows.mp hi')))
theorem sRows_disjoint {r r' : Fin 4} (h : r ≠ r') : Disjoint (sRows r) (sRows r') :=
  Finset.disjoint_left.mpr fun i hi hi' => h (Fin.ext ((mem_sRows.mp hi).symm.trans (mem_sRows.mp hi')))

theorem rows_biUnion : (Finset.univ : Finset (Fin 8)).biUnion rows = Finset.univ := by
  ext i
  have h0 : (i 0).val < 512 := idx2_lt0 i
  simp only [Finset.mem_biUnion, Finset.mem_univ, true_and, iff_true]
  exact ⟨⟨(i 0).val / 64, by omega⟩, mem_rows.mpr rfl⟩
theorem sRows_biUnion : (Finset.univ : Finset (Fin 4)).biUnion sRows = Finset.univ := by
  ext i
  have h0 : (i 0).val < 256 := idx2_lt0 i
  simp only [Finset.mem_biUnion, Finset.mem_univ, true_and, iff_true]
  exact ⟨⟨(i 0).val / 64, by omega⟩, mem_sRows.mpr rfl⟩

section Blk
variable {α : Type}

/-- Block `b` of an array of rows; with a leading unit axis; block `r` of a half. -/
def blk2 (f : S512x512.Idx → α) (b : Fin 8) : S64x512.Idx → α := fun x =>
  f (ix2 ⟨64 * b.val + (x 0).val, by have h : (x 0).val < 64 := idx2_lt0 x; have := b.isLt; omega⟩ (x 1))
def blk3 (f : S1x512x512.Idx → α) (b : Fin 8) : S1x64x512.Idx → α := fun x =>
  f (ix3 (x 0) ⟨64 * b.val + (x 1).val, by have h : (x 1).val < 64 := (x 1).isLt; have := b.isLt; omega⟩ (x 2))

/-- A block's element at an element's place in it. -/
def inBlk (i : S512x512.Idx) : S64x512.Idx := ix2 ⟨(i 0).val % 64, Nat.mod_lt _ (by decide)⟩ (i 1)
/-- The block an element lies in. -/
def blkOf (i : S512x512.Idx) : Fin 8 := ⟨(i 0).val / 64, by have h : (i 0).val < 512 := idx2_lt0 i; omega⟩
end Blk

/-! ## The rectangles -/

theorem dRect_emb {o h} {b : Fin 8} (ho : o = ![64 * b.val, 0]) (x : S64x512.Idx) :
    (dRect o h).emb x = ix2 ⟨64 * b.val + (x 0).val, by have h : (x 0).val < 64 := idx2_lt0 x; have := b.isLt; omega⟩ (x 1) := by
  subst ho
  funext a
  refine Fin.ext ?_
  match a with
  | ⟨0, _⟩ => show 64 * b.val + 1 * (x 0).val = 64 * b.val + (x 0).val; omega
  | ⟨1, _⟩ => show 0 + 1 * (x 1).val = (x 1).val; omega

theorem pRect_emb {o h} {b : Fin 8} (ho : o = ![0, 64 * b.val, 0]) (x : S1x64x512.Idx) :
    (pRect o h).emb x
      = ix3 (x 0) ⟨64 * b.val + (x 1).val, by have h : (x 1).val < 64 := (x 1).isLt; have := b.isLt; omega⟩ (x 2) := by
  subst ho
  funext a
  refine Fin.ext ?_
  match a with
  | ⟨0, _⟩ => show 0 + 1 * (x 0).val = (x 0).val; omega
  | ⟨1, _⟩ => show 64 * b.val + 1 * (x 1).val = 64 * b.val + (x 1).val; omega
  | ⟨2, _⟩ => show 0 + 1 * (x 2).val = (x 2).val; omega

theorem dRect_set {o h} {b : Fin 8} (ho : o = ![64 * b.val, 0]) : (dRect o h).set = rows b := by
  subst ho
  ext i
  have h1 : (i 1).val < 512 := idx2_lt1 i
  rw [Rect.mem_set_unit, mem_rows]
  refine ⟨fun h => ?_, fun h a => ?_⟩
  · have h := h 0
    change 64 * b.val ≤ (i 0).val ∧ (i 0).val < 64 * b.val + 64 at h
    omega
  · match a with
    | ⟨0, _⟩ => change 64 * b.val ≤ (i 0).val ∧ (i 0).val < 64 * b.val + 64; omega
    | ⟨1, _⟩ => change 0 ≤ (i 1).val ∧ (i 1).val < 0 + 512; omega

theorem dRect_emb_inBlk {o h} {b : Fin 8} (ho : o = ![64 * b.val, 0]) {i : S512x512.Idx} (hi : i ∈ rows b) :
    (dRect o h).emb (inBlk i) = i := by
  have hb := mem_rows.mp hi
  rw [dRect_emb ho]
  funext a
  refine Fin.ext ?_
  match a with
  | ⟨0, _⟩ => show 64 * b.val + (i 0).val % 64 = (i 0).val; omega
  | ⟨1, _⟩ => rfl

/-- The two offsets of a block of each half. -/
theorem off2_hB (c : Dev nD) (r : Fin 4) : k0_off2 c (row r) = ![64 * (hB c r).val, 0] := by
  rw [k0_off2_eq c r]; congr 1; show 256 * (c.val / 4) + 64 * r.val = 64 * (4 * (c.val / 4) + r.val); omega
theorem off4_hB (c : Dev nD) (r : Fin 4) : k0_off4 c (row r) = ![64 * (hB c r).val, 0] := by
  rw [k0_off4_eq c r]; congr 1; show 256 * (c.val / 4) + 64 * r.val = 64 * (4 * (c.val / 4) + r.val); omega
theorem off3_hB (c : Dev nD) (r : Fin 4) : k0_off3 c (row r) = ![0, 64 * (hB c r).val, 0] := by
  rw [k0_off3_eq c r]; congr 2; show 256 * (c.val / 4) + 64 * r.val = 64 * (4 * (c.val / 4) + r.val); omega
theorem off5_cB (c : Dev nD) (r : Fin 4) : k0_off5 c (row r) = ![64 * (cB c r).val, 0] := by
  rw [k0_off5_eq c r]; congr 1; show (64 * r.val + 256) - 256 * (c.val / 4) = 64 * ((r.val + 4) - 4 * (c.val / 4)); omega
theorem off7_cB (c : Dev nD) (r : Fin 4) : k0_off7 c (row r) = ![64 * (cB c r).val, 0] := by
  rw [k0_off7_eq c r]; congr 1; show (64 * r.val + 256) - 256 * (c.val / 4) = 64 * ((r.val + 4) - 4 * (c.val / 4)); omega
theorem off6_cB (c : Dev nD) (r : Fin 4) : k0_off6 c (row r) = ![0, 64 * (cB c r).val, 0] := by
  rw [k0_off6_eq c r]; congr 2; show (64 * r.val + 256) - 256 * (c.val / 4) = 64 * ((r.val + 4) - 4 * (c.val / 4)); omega

theorem hBlk_set (c : Dev nD) (r : Fin 4) : (hBlk c r).view.set = rows (hB c r) :=
  (View.set_slice_whole cc0_scratch1 _).trans (dRect_set (off2_hB c r))
theorem cBlk_set (c : Dev nD) (r : Fin 4) : (cBlk c r).view.set = rows (cB c r) :=
  (View.set_slice_whole cc0_scratch1 _).trans (dRect_set (off5_cB c r))
theorem sBlk_set (r : Fin 4) : (sBlk r).view.set = sRows r := by
  refine (View.set_slice_whole cc0_scratch0 _).trans ?_
  ext i
  have h1 : (i 1).val < 512 := idx2_lt1 i
  rw [mem_sRows]
  refine Rect.mem_set_unit.trans ⟨fun h => ?_, fun h a => ?_⟩
  · have h := h 0
    change 64 * r.val ≤ (i 0).val ∧ (i 0).val < 64 * r.val + 64 at h
    omega
  · match a with
    | ⟨0, _⟩ => change 64 * r.val ≤ (i 0).val ∧ (i 0).val < 64 * r.val + 64; omega
    | ⟨1, _⟩ => change 0 ≤ (i 1).val ∧ (i 1).val < 0 + 512; omega

theorem vM_access_set {o h} {b : Fin 8} (ho : o = ![64 * b.val, 0]) : (vM.access (dRect o h)).set = rows b :=
  (View.set_slice_whole cc0_scratch1 _).trans (dRect_set ho)
theorem oM_access_set {o h} {b : Fin 8} (ho : o = ![64 * b.val, 0]) : (oM.access (dRect o h)).set = rows b :=
  (View.set_slice_whole cc0_stg2_0 _).trans (dRect_set ho)

/-! ## Contents -/

variable (m : (ℓ : Loc nD τ sig) → Buf (Elt F) ℓ)

/-- Device `c`'s block of `partial`, the weights and the residual, as the launch finds them. -/
abbrev part (c : Dev nD) : S1x512x512.Idx → Elt F .bf16 := m ((c : Thread nD τ).loc main_arg0)
abbrev wts (c : Dev nD) : S512.Idx → Elt F .bf16 := m ((c : Thread nD τ).loc main_arg2)
abbrev resid (c : Dev nD) : S512x512.Idx → Elt F .f32 := m ((c : Thread nD τ).loc main_arg1)

/-- What the send buffer holds: the half of `partial` the device exchanges along y; -/
def sent (c : Dev nD) : S256x512.Idx → Elt F .bf16 := fun i =>
  part m c (ix3 (0 : Fin 1) ⟨256 * (c.val / 4) + (i 0).val, by
    have h : (i 0).val < 256 := idx2_lt0 i; have := c.isLt; have : nD = 8 := rfl; omega⟩ (i 1))
/-- what the landing buffer holds when all has arrived: in the y half the y neighbour's rows, in the other half those of the
    x neighbour's y neighbour; -/
def landed (c : Dev nD) : S512x512.Idx → Elt F .bf16 := fun i =>
  if (i 0).val / 256 = c.val / 4 then part m (ynbr c) (ix3 (0 : Fin 1) (i 0) (i 1))
  else part m (ynbr (xnbr c)) (ix3 (0 : Fin 1) (i 0) (i 1))
/-- what the result holds: each block the normalised sum of the device's rows, the rows that landed and the residual. -/
def normed (c : Dev nD) : S512x512.Idx → Elt F .bf16 := fun i =>
  k0_pay6 (blk3 (part m c) (blkOf i)) (blk2 (landed m c) (blkOf i)) (blk2 (resid m c) (blkOf i)) (wts m c) (inBlk i)

/-- The y neighbour's send, landed in the block's rows, is `landed`. -/
theorem land_y (c : Dev nD) (r : Fin 4) (fd : S512x512.Idx → Elt F .bf16) {i : S512x512.Idx} (hi : i ∈ rows (hB c r)) :
    (hBlk c r).view.write (Elt F) fd ((sBlk r).view.read (Elt F) (sent m c)) Finset.univ i = landed m (ynbr c) i := by
  have hb : (i 0).val / 64 = 4 * (c.val / 4) + r.val := mem_rows.mp hi
  have hr := r.isLt
  have e : (hBlk c r).view.emb (inBlk i) = i := dRect_emb_inBlk (h := k0_off2_inb c r) (off2_hB c r) hi
  have h := View.write_emb_of_mem (v := (hBlk c r).view) (Val := Elt F) fd ((sBlk r).view.read (Elt F) (sent m c)) (Finset.mem_univ (inBlk i))
  rw [e] at h
  refine h.trans ?_
  unfold landed
  rw [if_pos (by rw [ynbr_x]; omega), ynbr_ynbr]
  show sent m c ((sBlk r).view.emb (inBlk i)) = _
  unfold sent
  congr 1
  funext a
  refine Fin.ext ?_
  match a with
  | ⟨0, _⟩ => rfl
  | ⟨1, _⟩ => show 256 * (c.val / 4) + (64 * r.val + 1 * ((i 0).val % 64)) = (i 0).val; omega
  | ⟨2, _⟩ => show 0 + 1 * (i 1).val = (i 1).val; omega

/-- The x neighbour's forward, landed in the block's rows, is `landed`. -/
theorem land_x (c : Dev nD) (r : Fin 4) (fd : S512x512.Idx → Elt F .bf16) {i : S512x512.Idx} (hi : i ∈ rows (hB c r)) :
    (hBlk c r).view.write (Elt F) fd ((hBlk c r).view.read (Elt F) (landed m c)) Finset.univ i = landed m (xnbr c) i := by
  have hb : (i 0).val / 64 = 4 * (c.val / 4) + r.val := mem_rows.mp hi
  have hr := r.isLt
  have hc : c.val / 4 < 2 := by have := c.isLt; have : nD = 8 := rfl; omega
  have e : (hBlk c r).view.emb (inBlk i) = i := dRect_emb_inBlk (h := k0_off2_inb c r) (off2_hB c r) hi
  have h := View.write_emb_of_mem (v := (hBlk c r).view) (Val := Elt F) fd ((hBlk c r).view.read (Elt F) (landed m c))
    (Finset.mem_univ (inBlk i))
  rw [e] at h
  refine h.trans ?_
  show landed m c ((hBlk c r).view.emb (inBlk i)) = _
  rw [e]
  unfold landed
  rw [if_pos (by omega), if_neg (by rw [xnbr_x]; omega), xnbr_xnbr]

/-- A load of 64 rows reads the block. -/
theorem readAt_v {o h} {b : Fin 8} (ho : o = ![64 * b.val, 0]) (f : S512x512.Idx → Elt F .bf16) :
    vM.view.readAt (Elt F) (dRect o h).toLoadRect f = blk2 f b := by
  funext x; exact congrArg f (dRect_emb (h := h) ho x)
theorem readAt_r {o h} {b : Fin 8} (ho : o = ![64 * b.val, 0]) (f : S512x512.Idx → Elt F .f32) :
    rM.view.readAt (Elt F) (dRect o h).toLoadRect f = blk2 f b := by
  funext x; exact congrArg f (dRect_emb (h := h) ho x)
theorem readAt_p {o h} {b : Fin 8} (ho : o = ![0, 64 * b.val, 0]) (f : S1x512x512.Idx → Elt F .bf16) :
    pM.view.readAt (Elt F) (pRect o h).toLoadRect f = blk3 f b := by
  funext x; exact congrArg f (pRect_emb (h := h) ho x)
theorem readAt_g (f : S512.Idx → Elt F .bf16) :
    gM.view.readAt (Elt F) (Rect.unit (s := S512) ![0] S512.size inb_S512_S512_0).toLoadRect f = f := by
  funext x; refine congrArg f (funext fun a => Fin.ext ?_)
  match a with
  | ⟨0, _⟩ => show 0 + 1 * (x 0).val = (x 0).val; omega

/-- The normalised block, stored, is `normed`'s. -/
theorem store_o (c : Dev nD) {o h} {b : Fin 8} (ho : o = ![64 * b.val, 0]) (fd : S512x512.Idx → Elt F .bf16)
    {i : S512x512.Idx} (hi : i ∈ rows b) :
    (oM.access (dRect o h)).write (Elt F) fd
      (k0_pay6 (blk3 (part m c) b) (blk2 (landed m c) b) (blk2 (resid m c) b) (wts m c)) Finset.univ i = normed m c i := by
  have e : (oM.access (dRect o h)).emb (inBlk i) = i := dRect_emb_inBlk (h := h) ho hi
  have hw := View.write_emb_of_mem (v := oM.access (dRect o h)) (Val := Elt F) fd
    (k0_pay6 (blk3 (part m c) b) (blk2 (landed m c) b) (blk2 (resid m c) b) (wts m c)) (Finset.mem_univ (inBlk i))
  rw [e] at hw
  refine hw.trans ?_
  have hb : blkOf i = b := Fin.ext (mem_rows.mp hi)
  unfold normed
  rw [hb]
  rfl

/-- The half of `partial`, loaded and stored whole, is `sent`. -/
theorem store_s (c : Dev nD) (fd : S256x512.Idx → Elt F .bf16) :
    (sM.access sRect).write (Elt F) fd (k0_pay2 (k0_pay1 (pM.view.readAt (Elt F) (halfRect c).toLoadRect (part m c)))) Finset.univ
      = sent m c := by
  funext i
  have e : (sM.access sRect).emb i = i := by
    funext a
    refine Fin.ext ?_
    match a with
    | ⟨0, _⟩ => show 0 + 1 * (i 0).val = (i 0).val; omega
    | ⟨1, _⟩ => show 0 + 1 * (i 1).val = (i 1).val; omega
  have hw := View.write_emb_of_mem (v := sM.access sRect) (Val := Elt F) fd
    (k0_pay2 (k0_pay1 (pM.view.readAt (Elt F) (halfRect c).toLoadRect (part m c)))) (Finset.mem_univ i)
  rw [e] at hw
  refine hw.trans ?_
  have e2 : k0_pay2 (k0_pay1 (pM.view.readAt (Elt F) (halfRect c).toLoadRect (part m c)))
      = k0_pay1 (pM.view.readAt (Elt F) (halfRect c).toLoadRect (part m c)) := shapeCast_self _ _
  show k0_pay2 (k0_pay1 (pM.view.readAt (Elt F) (halfRect c).toLoadRect (part m c))) i = _
  rw [e2, eq_ix2 i]
  refine (shapeCast_1ab_ab_apply (pM.view.readAt (Elt F) (halfRect c).toLoadRect (part m c)) shapeCasts_S1x256x512_S256x512
    (i 0) (i 1)).trans ?_
  unfold sent
  refine congrArg (part m c) (funext fun a => Fin.ext ?_)
  have ho := k0_off1_eq c
  match a with
  | ⟨0, _⟩ => exact congrArg (· + 1 * 0) (congrFun ho 0)
  | ⟨1, _⟩ => show k0_off1 c 1 + 1 * (i 0).val = 256 * (c.val / 4) + (i 0).val; rw [congrFun ho 1, Nat.one_mul]; rfl
  | ⟨2, _⟩ => show k0_off1 c 2 + 1 * (i 1).val = (i 1).val; rw [congrFun ho 2, Nat.one_mul]; exact Nat.zero_add _

end Cert.AllReduceNorm

end
-- ==== Proof.Protocol.lean ====
/-
# The protocol

Per semaphore of device `c`, who raises it, by how much, and what is handed over with the raise:

* the barrier semaphore: one unit from each neighbour. The y neighbour's hands `c` the rows of its landing buffer that
  `c`'s sends go to, the x neighbour's the rows that `c`'s forwards go to; `c` waits for both units.
* `ySend r`, `yRecv r`: `c`'s send of block `r` gives `c` its block of the send buffer back; the y neighbour's gives `c` block
  `r` of the half exchanged along y, arrived.
* `fSend r`, `fRecv r`: `c`'s forward of block `r` gives `c` the share of the block it lent back; the x neighbour's gives `c`
  block `r` of the other half, arrived.
* `copyS`: the residual's local copy.

Every semaphore goes one round. A device waits on its semaphores in the order staging, barrier, y blocks, forwarded blocks, and
while it waits it owes only to later ones: the levels.
-/
module

public import proofs.«01_k».proof.Proof.Blocks

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline's rounds, and the kernel's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The semaphores by key -/

/-- The kernel's own semaphores: a leg (send along y, receive along y, send of a forward, receive of a forward) and a block;
    or the local copy's. -/
abbrev Own : Type := (Fin 4 × Fin 4) ⊕ Unit
/-- Those and the barrier's. -/
abbrev Key : Type := Unit ⊕ Own

set_option backward.proofsInPublic true in
abbrev legS (l r : Fin 4) : DmaSem sig :=
  ⟨3 + 4 * l.val + r.val, by have := l.isLt; have := r.isLt; show 3 + 4 * l.val + r.val < 20; omega⟩
abbrev osem : Own → SemLoc sig := fun | .inl lr => .dma (legS lr.1 lr.2) | .inr _ => .dma copyS
abbrev csem : Key → SemLoc sig := fun | .inl _ => .reg barS | .inr k => osem k
abbrev kcell (ck : Dev nD × Key) : GSem nD τ sig := ((ck.1 : Thread nD τ), csem ck.2)

abbrev bar : Key := .inl ()
abbrev leg (l r : Fin 4) : Key := .inr (.inl (l, r))
abbrev copy : Key := .inr (.inr ())

abbrev barC (c : Dev nD) : GSem nD τ sig := ((c : Thread nD τ), .reg barS)
abbrev ySendC (c : Dev nD) (r : Fin 4) : GSem nD τ sig := ((c : Thread nD τ), .dma (ySend r))
abbrev yRecvC (c : Dev nD) (r : Fin 4) : GSem nD τ sig := ((c : Thread nD τ), .dma (yRecv r))
abbrev fSendC (c : Dev nD) (r : Fin 4) : GSem nD τ sig := ((c : Thread nD τ), .dma (fSend r))
abbrev fRecvC (c : Dev nD) (r : Fin 4) : GSem nD τ sig := ((c : Thread nD τ), .dma (fRecv r))
abbrev copyC (c : Dev nD) : GSem nD τ sig := ((c : Thread nD τ), .dma copyS)

theorem kcell_bar (c : Dev nD) : kcell (c, bar) = barC c := rfl
theorem kcell_ySend (c : Dev nD) (r : Fin 4) : kcell (c, leg 0 r) = ySendC c r := rfl
theorem kcell_yRecv (c : Dev nD) (r : Fin 4) : kcell (c, leg 1 r) = yRecvC c r := rfl
theorem kcell_fSend (c : Dev nD) (r : Fin 4) : kcell (c, leg 2 r) = fSendC c r := rfl
theorem kcell_fRecv (c : Dev nD) (r : Fin 4) : kcell (c, leg 3 r) = fRecvC c r := rfl
theorem kcell_copy (c : Dev nD) : kcell (c, copy) = copyC c := rfl

/-- What one block's transfer raises a semaphore by, and the local copy. -/
def N : ℕ := (hBlk 0 0).view.dmaCredit
def NC : ℕ := rM.view.dmaCredit
theorem N_pos : 0 < N := View.dmaCredit_pos _ (by decide)
theorem NC_pos : 0 < NC := View.dmaCredit_pos _ (by decide)
theorem credit_h (c : Dev nD) (r : Fin 4) : (hBlk c r).view.dmaCredit = N := rfl
theorem credit_c (c : Dev nD) (r : Fin 4) : (cBlk c r).view.dmaCredit = N := rfl
theorem credit_s (r : Fin 4) : (sBlk r).view.dmaCredit = N := rfl

/-! ## What is handed over -/

/-- Block `b` of the landing buffer, block `r` of the send buffer, block `b` of the result. -/
def vPts (c : Dev nD) (b : Fin 8) (q : PosShare TreeShare) (f : S512x512.Idx → Elt F .bf16) : sProp 𝕄 :=
  ((c : Thread nD τ).loc cc0_scratch1) ↦[rows b]{q} f
def sPts (c : Dev nD) (r : Fin 4) (f : S256x512.Idx → Elt F .bf16) : sProp 𝕄 :=
  ((c : Thread nD τ).loc cc0_scratch0) ↦[sRows r]{fullShare} f
def oPts (c : Dev nD) (b : Fin 8) (f : S512x512.Idx → Elt F .bf16) : sProp 𝕄 :=
  ((c : Thread nD τ).loc cc0_stg2_0) ↦[rows b]{fullShare} f
/-- The residual's copy, and the residual. -/
def rPts (c : Dev nD) (f : S512x512.Idx → Elt F .f32) : sProp 𝕄 := ((c : Thread nD τ).loc cc0_scratch2) ↦{fullShare} f
def xPts (c : Dev nD) (f : S512x512.Idx → Elt F .f32) : sProp 𝕄 := ((c : Thread nD τ).loc main_arg1) ↦{fullShare} f

/-- The rows a neighbour `n` hands device `c` at the handshake: those at `c`'s y half. -/
def lent (n c : Dev nD) : sProp 𝕄 := bigSep Finset.univ fun r : Fin 4 => iprop(∃ f, vPts (F := F) n (hB c r) fullShare f)

omit [FloatOps F] in
instance vPts_storable (c : Dev nD) (b q f) : BI.Storable (upEmb : UEmb _ 𝕄) (vPts (F := F) c b q f) := by unfold vPts; infer_instance
omit [FloatOps F] in
instance sPts_storable (c : Dev nD) (r f) : BI.Storable (upEmb : UEmb _ 𝕄) (sPts (F := F) c r f) := by unfold sPts; infer_instance
omit [FloatOps F] in
instance rPts_storable (c : Dev nD) (f) : BI.Storable (upEmb : UEmb _ 𝕄) (rPts (F := F) c f) := by unfold rPts; infer_instance
omit [FloatOps F] in
instance xPts_storable (c : Dev nD) (f) : BI.Storable (upEmb : UEmb _ 𝕄) (xPts (F := F) c f) := by unfold xPts; infer_instance
omit [FloatOps F] in
instance lent_storable (n c : Dev nD) : BI.Storable (upEmb : UEmb _ 𝕄) (lent (F := F) n c) := by unfold lent; infer_instance

/-- The half of a block a forward lends while it is read. -/
abbrev lendShare : PosShare TreeShare := fullShare.right
abbrev keepShare : PosShare TreeShare := fullShare.left

/-- The block a transfer's semaphore belongs to. -/
def blockOf (q : DmaSem sig) : Fin 4 := ⟨(q.val + 1) % 4, Nat.mod_lt _ (by decide)⟩

theorem blockOf_leg (l r : Fin 4) : blockOf (legS l r) = r :=
  Fin.ext (by show (3 + 4 * l.val + r.val + 1) % 4 = r.val; have := r.isLt; omega)

/-- What a raise of device `c`'s DMA semaphore `q` hands over. -/
def dmaPay (c : Dev nD) (q : DmaSem sig) : sProp 𝕄 :=
  if q.val < 3 then iprop(emp)
  else if q.val < 7 then sPts c (blockOf q) (sent m c)
  else if q.val < 11 then vPts c (hB c (blockOf q)) fullShare (landed m c)
  else if q.val < 15 then vPts c (hB c (blockOf q)) lendShare (landed m c)
  else if q.val < 19 then vPts c (cB c (blockOf q)) fullShare (landed m c)
  else iprop(rPts c (resid m c) ∗ xPts c (resid m c))

/-- What a raise of semaphore `g` hands over: at a barrier, the duty `false` is the y neighbour's, `true` the x neighbour's. -/
def pay (g : GSem nD τ sig) (d : Bool) : sProp 𝕄 :=
  match g.2 with
  | .reg _ => if d then lent (xnbr g.1.1) g.1.1 else lent (ynbr g.1.1) g.1.1
  | .dma q => dmaPay m g.1.1 q

/-- The amount of a raise. -/
def amt (sm : SemLoc sig) : ℕ :=
  match sm with
  | .reg _ => 1
  | .dma q => if q.val < 19 then N else NC

theorem amt_pos (sm : SemLoc sig) : 0 < amt sm := by
  unfold amt
  (repeat' split)
  · exact Nat.one_pos
  · exact N_pos
  · exact NC_pos

abbrev IsBar (g : GSem nD τ sig) : Prop := g.1.2 = .tc ∧ g.2 = .reg barS
abbrev IsXfer (g : GSem nD τ sig) : Prop := g.1.2 = .tc ∧ ∃ k : Own, g.2 = osem k

/-- One round: two raises of a barrier, one of every own semaphore. -/
def sched : Rounds.Schedule (GSem nD τ sig) Bool 𝕄 where
  duties g r := if r = 0 ∧ IsBar g then Finset.univ else if r = 0 ∧ IsXfer g then {false} else ∅
  unitless _ := False
  amount g _ _ := amt g.2
  payload g _ d := pay m g d
  amount_pos g _ _ _ := amt_pos g.2

omit [FloatOps F] in
instance pay_storable (g : GSem nD τ sig) (d : Bool) : BI.Storable (upEmb : UEmb _ 𝕄) (pay (F := F) m g d) := by
  unfold pay dmaPay
  (repeat' split) <;> infer_instance
instance sched_payload_storable (g : GSem nD τ sig) (r : ℕ) (d : Bool) :
    BI.Storable (upEmb : UEmb _ 𝕄) ((sched (F := F) m).payload g r d) := pay_storable m g d

section Tables
variable (c : Dev nD)

open Classical in
omit [FloatOps F] in
theorem duties_eq (g : GSem nD τ sig) (r : ℕ) : (sched (F := F) m).duties g r
    = if r = 0 ∧ IsBar g then Finset.univ else if r = 0 ∧ IsXfer g then {false} else ∅ := by
  unfold sched; congr

omit [FloatOps F] in
theorem duties_bar : (sched (F := F) m).duties (barC c) 0 = Finset.univ := by
  rw [duties_eq, if_pos ⟨rfl, rfl, rfl⟩]
omit [FloatOps F] in
theorem duties_own (k : Own) : (sched (F := F) m).duties (kcell (c, .inr k)) 0 = {false} := by
  have hb : ¬ ((0 : ℕ) = 0 ∧ IsBar (kcell (c, .inr k))) := fun h => by rcases k with _ | _ <;> cases h.2.2
  exact (if_neg hb).trans (if_pos ⟨rfl, rfl, k, rfl⟩)
omit [FloatOps F] in
theorem duties_later (g : GSem nD τ sig) : ∀ r, 1 ≤ r → (sched (F := F) m).duties g r = ∅ := fun r hr =>
  (if_neg fun h => by have := h.1; omega).trans (if_neg fun h => by have := h.1; omega)

omit [FloatOps F] in
theorem mem_own (k : Own) : false ∈ (sched (F := F) m).duties (kcell (c, .inr k)) 0 := by
  rw [duties_own]; exact Finset.mem_singleton_self _

omit [FloatOps F] in
theorem expect_bar : (sched (F := F) m).expect (barC c) 0 = 2 := by
  unfold Schedule.expect Schedule.amountOf
  rw [duties_bar]; rfl
omit [FloatOps F] in
theorem expect_own (k : Own) : (sched (F := F) m).expect (kcell (c, .inr k)) 0 = amt (osem k) := by
  unfold Schedule.expect Schedule.amountOf; rw [duties_own, Finset.sum_singleton]; rfl

theorem amt_leg (l r : Fin 4) : amt (.dma (legS l r)) = N :=
  if_pos (show 3 + 4 * l.val + r.val < 19 by have := l.isLt; have := r.isLt; omega)
theorem amt_copy : amt (.dma copyS) = NC := by
  unfold amt; exact if_neg (show ¬ 19 < 19 by decide)

omit [FloatOps F] in
theorem pay_ySend (r : Fin 4) (d : Bool) : pay (F := F) m (ySendC c r) d = sPts c r (sent m c) := by
  have hr := r.isLt
  have hb : blockOf (ySend r) = r := blockOf_leg 0 r
  show dmaPay m c (ySend r) = _
  unfold dmaPay
  rw [if_neg (by show ¬ 3 + r.val < 3; omega), if_pos (by show 3 + r.val < 7; omega), hb]
omit [FloatOps F] in
theorem pay_yRecv (r : Fin 4) (d : Bool) : pay (F := F) m (yRecvC c r) d = vPts c (hB c r) fullShare (landed m c) := by
  have hr := r.isLt
  have hb : blockOf (yRecv r) = r := blockOf_leg 1 r
  show dmaPay m c (yRecv r) = _
  unfold dmaPay
  rw [if_neg (by show ¬ 7 + r.val < 3; omega), if_neg (by show ¬ 7 + r.val < 7; omega), if_pos (by show 7 + r.val < 11; omega), hb]
omit [FloatOps F] in
theorem pay_fSend (r : Fin 4) (d : Bool) : pay (F := F) m (fSendC c r) d = vPts c (hB c r) lendShare (landed m c) := by
  have hr := r.isLt
  have hb : blockOf (fSend r) = r := blockOf_leg 2 r
  show dmaPay m c (fSend r) = _
  unfold dmaPay
  rw [if_neg (by show ¬ 11 + r.val < 3; omega), if_neg (by show ¬ 11 + r.val < 7; omega),
    if_neg (by show ¬ 11 + r.val < 11; omega), if_pos (by show 11 + r.val < 15; omega), hb]
omit [FloatOps F] in
theorem pay_fRecv (r : Fin 4) (d : Bool) : pay (F := F) m (fRecvC c r) d = vPts c (cB c r) fullShare (landed m c) := by
  have hr := r.isLt
  have hb : blockOf (fRecv r) = r := blockOf_leg 3 r
  show dmaPay m c (fRecv r) = _
  unfold dmaPay
  rw [if_neg (by show ¬ 15 + r.val < 3; omega), if_neg (by show ¬ 15 + r.val < 7; omega),
    if_neg (by show ¬ 15 + r.val < 11; omega), if_neg (by show ¬ 15 + r.val < 15; omega), if_pos (by show 15 + r.val < 19; omega), hb]
omit [FloatOps F] in
theorem pay_copy (d : Bool) : pay (F := F) m (copyC c) d = iprop(rPts c (resid m c) ∗ xPts c (resid m c)) := by
  show dmaPay m c copyS = _
  unfold dmaPay
  rw [if_neg (by decide), if_neg (by decide), if_neg (by decide), if_neg (by decide), if_neg (by decide)]

omit [FloatOps F] in
/-- What a completed wait yields: at a barrier both neighbours' rows, at an own semaphore its one raise's. -/
theorem rest_bar : bigSep ((sched (F := F) m).duties (barC c) 0 \ ∅) (fun d => (sched (F := F) m).payload (barC c) 0 d)
    = iprop(lent (ynbr c) c ∗ lent (xnbr c) c) := by
  rw [Finset.sdiff_empty, duties_bar, bigSep_univ_eq_bigSepL [false, true] (by decide) (by decide), bigSepL_cons_cons, bigSepL_singleton]
  rfl
omit [FloatOps F] in
theorem rest_own (k : Own) :
    bigSep ((sched (F := F) m).duties (kcell (c, .inr k)) 0 \ ∅) (fun d => (sched (F := F) m).payload (kcell (c, .inr k)) 0 d)
      = pay m (kcell (c, .inr k)) false := by
  rw [Finset.sdiff_empty, duties_own, bigSep_singleton]; rfl

end Tables

/-! ## What a device owes, and the levels -/

/-- One block's transfer to each of some cells. -/
def due (cell : Fin 4 → GSem nD τ sig) (n : ℕ) : CellTallies nD τ sig Unit :=
  ∑ r ∈ Finset.univ.filter (fun r : Fin 4 => n ≤ r.val), tallyAt (cell r) () N

theorem due_step (cell : Fin 4 → GSem nD τ sig) (r : Fin 4) : due cell r.val = due cell (r.val + 1) + tallyAt (cell r) () N := by
  have h : Finset.univ.filter (fun x : Fin 4 => r.val ≤ x.val) = insert r (Finset.univ.filter (fun x : Fin 4 => r.val + 1 ≤ x.val)) := by
    ext x; simp only [Finset.mem_filter, Finset.mem_univ, true_and, Finset.mem_insert, Fin.ext_iff]; omega
  unfold due
  rw [h, Finset.sum_insert (by simp), add_comm]
theorem due_done (cell : Fin 4 → GSem nD τ sig) : due cell 4 = 0 := by
  have h : Finset.univ.filter (fun x : Fin 4 => 4 ≤ x.val) = ∅ := by decide
  unfold due; rw [h, Finset.sum_empty]
theorem due_at (cell : Fin 4 → GSem nD τ sig) (n : ℕ) (g : GSem nD τ sig) (u : Unit) :
    due cell n g u = ∑ r ∈ Finset.univ.filter (fun r : Fin 4 => n ≤ r.val), if g = cell r then N else 0 := by
  unfold due
  rw [Finset.sum_apply, Finsupp.finset_sum_apply]
  refine Finset.sum_congr rfl fun r _ => ?_
  rw [tallyAt_apply]
  exact if_congr ⟨fun h => h.1, fun h => ⟨h, rfl⟩⟩ rfl rfl
theorem due_pos {cell : Fin 4 → GSem nD τ sig} {n : ℕ} {g : GSem nD τ sig} {u : Unit} (h : 0 < due cell n g u) : ∃ r, g = cell r := by
  rw [due_at] at h
  obtain ⟨r, -, hr⟩ := Finset.exists_ne_zero_of_sum_ne_zero (Nat.pos_iff_ne_zero.mp h)
  exact ⟨r, by by_contra hn; exact hr (if_neg hn)⟩

/-- What device `c` still owes after `n` forwards (all sends done); after `n` sends; after the handshake's first signal; at
    the start. -/
def owF (c : Dev nD) (n : ℕ) : CellTallies nD τ sig Unit := due (fRecvC (xnbr c)) n
def owV (c : Dev nD) (n : ℕ) : CellTallies nD τ sig Unit := owF c 0 + due (yRecvC (ynbr c)) n
def ow₁ (c : Dev nD) : CellTallies nD τ sig Unit := owV c 0 + tallyAt (barC (xnbr c)) () 1
def ow₀ (c : Dev nD) : CellTallies nD τ sig Unit := ow₁ c + tallyAt (barC (ynbr c)) () 1

theorem owF_step (c : Dev nD) (r : Fin 4) : owF c r.val = owF c (r.val + 1) + tallyAt (fRecvC (xnbr c) r) () N := due_step _ r
theorem owF_done (c : Dev nD) : owF c 4 = 0 := due_done _
theorem owV_step (c : Dev nD) (r : Fin 4) : owV c r.val = owV c (r.val + 1) + tallyAt (yRecvC (ynbr c) r) () N := by
  unfold owV; rw [due_step _ r, add_assoc]
theorem owV_done (c : Dev nD) : owV c 4 = owF c 0 := by unfold owV; rw [due_done, add_zero]

theorem owF_pos {c : Dev nD} {n g u} (h : 0 < owF c n g u) : ∃ r, g = fRecvC (xnbr c) r := due_pos h
theorem owV_pos {c : Dev nD} {n g u} (h : 0 < owV c n g u) : (∃ r, g = fRecvC (xnbr c) r) ∨ ∃ r, g = yRecvC (ynbr c) r := by
  unfold owV at h
  rw [Pi.add_apply, Finsupp.add_apply] at h
  rcases Nat.pos_iff_ne_zero.mp h |> fun h => (Nat.add_pos_iff_pos_or_pos.mp (Nat.pos_of_ne_zero h)) with h | h
  · exact .inl (owF_pos h)
  · exact .inr (due_pos h)
theorem tally_pos {g g' : GSem nD τ sig} {u : Unit} {k : ℕ} (h : 0 < tallyAt g () k g' u) : g' = g := by
  rw [tallyAt_apply] at h
  by_contra hn
  rw [if_neg fun h' => hn h'.1] at h
  exact Nat.lt_irrefl 0 h
theorem ow₀_pos {c : Dev nD} {g u} (h : 0 < ow₀ c g u) :
    (∃ r, g = fRecvC (xnbr c) r) ∨ (∃ r, g = yRecvC (ynbr c) r) ∨ g = barC (xnbr c) ∨ g = barC (ynbr c) := by
  unfold ow₀ ow₁ at h
  rw [Pi.add_apply, Finsupp.add_apply, Pi.add_apply, Finsupp.add_apply] at h
  rcases Nat.add_pos_iff_pos_or_pos.mp h with h | h
  · rcases Nat.add_pos_iff_pos_or_pos.mp h with h | h
    · rcases owV_pos h with h | h
      · exact .inl h
      · exact .inr (.inl h)
    · exact .inr (.inr (.inl (tally_pos h)))
  · exact .inr (.inr (.inr (tally_pos h)))

def L (g : GSem nD τ sig) : Finset Unit := if g.1.2 = .tc then {()} else ∅
/-- The order of the waits. -/
def lvS (sm : SemLoc sig) : ℕ :=
  match sm with
  | .reg _ => 1
  | .dma q => if 7 ≤ q.val ∧ q.val < 11 then 2 else if 15 ≤ q.val ∧ q.val < 19 then 3 else 0
def lv (g : GSem nD τ sig) (_ : Unit) : ℕ := lvS g.2

theorem L_of_ne (g : GSem nD τ sig) (h : g.1.2 ≠ .tc) : L g = ∅ := if_neg h

theorem lvS_ySend (r : Fin 4) : lvS (.dma (ySend r)) = 0 := by revert r; decide
theorem lvS_yRecv (r : Fin 4) : lvS (.dma (yRecv r)) = 2 := by revert r; decide
theorem lvS_fSend (r : Fin 4) : lvS (.dma (fSend r)) = 0 := by revert r; decide
theorem lvS_fRecv (r : Fin 4) : lvS (.dma (fRecv r)) = 3 := by revert r; decide
theorem lvS_copy : lvS (.dma copyS) = 0 := by decide

omit [FloatOps F] in
/-- A device may wait on a semaphore while all it owes is to higher ones. -/
theorem mayWait_lt (c : Dev nD) (sm : SemLoc sig) (O : CellTallies nD τ sig Unit)
    (h : ∀ g u, 0 < O g u → g.1.2 = .tc ∧ lvS sm < lvS g.2) : (levAts L lv : sProp 𝕄) ⊢ MayWait (c : Thread nD τ) sm () O :=
  MayOwe.of_cut (L := L) (lev := lv) (lvS sm)
    (fun p hp => by rw [Finset.mem_singleton.mp hp]; show () ∈ L ((c : Thread nD τ), sm); rw [L, if_pos rfl]; exact Finset.mem_singleton_self _)
    (fun g u hg => by rw [L, if_pos (h g u hg).1]; exact Finset.mem_singleton_self _)
    (fun p hp => by rw [Finset.mem_singleton.mp hp]; exact Nat.le_refl _)
    (fun g u hg => (h g u hg).2)

omit [FloatOps F] in
theorem mayWait_owF (c : Dev nD) (sm : SemLoc sig) (n : ℕ) (h : lvS sm < 3) :
    (levAts L lv : sProp 𝕄) ⊢ MayWait (c : Thread nD τ) sm () (owF c n) :=
  mayWait_lt c sm _ fun g u hg => by
    obtain ⟨r, rfl⟩ := owF_pos hg
    exact ⟨rfl, by rw [show lvS (fRecvC (xnbr c) r).2 = 3 from lvS_fRecv r]; exact h⟩
omit [FloatOps F] in
theorem mayWait_owV (c : Dev nD) (sm : SemLoc sig) (n : ℕ) (h : lvS sm < 2) :
    (levAts L lv : sProp 𝕄) ⊢ MayWait (c : Thread nD τ) sm () (owV c n) :=
  mayWait_lt c sm _ fun g u hg => by
    rcases owV_pos hg with ⟨r, rfl⟩ | ⟨r, rfl⟩
    · exact ⟨rfl, by rw [show lvS (fRecvC (xnbr c) r).2 = 3 from lvS_fRecv r]; omega⟩
    · exact ⟨rfl, by rw [show lvS (yRecvC (ynbr c) r).2 = 2 from lvS_yRecv r]; exact h⟩
omit [FloatOps F] in
theorem mayWait_ow₀ (c : Dev nD) (sm : SemLoc sig) (h : lvS sm = 0) :
    (levAts L lv : sProp 𝕄) ⊢ MayWait (c : Thread nD τ) sm () (ow₀ c) :=
  mayWait_lt c sm _ fun g u hg => by
    rw [h]
    rcases ow₀_pos hg with ⟨r, rfl⟩ | ⟨r, rfl⟩ | rfl | rfl
    · exact ⟨rfl, by rw [show lvS (fRecvC (xnbr c) r).2 = 3 from lvS_fRecv r]; omega⟩
    · exact ⟨rfl, by rw [show lvS (yRecvC (ynbr c) r).2 = 2 from lvS_yRecv r]; omega⟩
    · exact ⟨rfl, Nat.one_pos⟩
    · exact ⟨rfl, Nat.one_pos⟩

end Cert.AllReduceNorm

end
-- ==== Proof.Steps.lean ====
/-
# The body's steps, each once at a symbolic device and block

Each stretch of the walk (`Walk.lean`) against the protocol (`Protocol.lean`): what it takes, what it leaves. Four blocks in a
row follow from one (`four`).
-/
module

public import proofs.«01_k».proof.Proof.Protocol

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Key → ℕ)

abbrev 𝒱₀ : Variants := Variants.none

/-- Device `c` running `p` to `Q`. -/
abbrev run (c : Dev nD) (p : Body F) (Q : PUnit → sProp 𝕄) : sProp 𝕄 :=
  wp frame (wpE (defs₀ (F := F)) 𝒱₀ (c : Thread nD τ) none) Set.univ p Q

/-- What device `c` owes, after any waits. -/
def owing (c : Dev nD) (O : CellTallies nD τ sig Unit) : sProp 𝕄 := iprop(∃ W, owes (c : Thread nD τ) O W)

/-- Every cell's invariant, that it is at round 0, and the levels. -/
def records : sProp 𝕄 :=
  iprop((bigSep Finset.univ fun ck : Dev nD × Key => cellInv ER (sched m) (K ck) (kcell ck))
    ∗ (bigSep Finset.univ fun ck : Dev nD × Key => reached ER (kcell ck) 0) ∗ levAts L lv)

instance records_persistent : BI.Persistent (records m K) := by unfold records; infer_instance

omit [FloatOps F] in
theorem inv_at (c : Dev nD) (k : Key) : records (F := F) m K ⊢ cellInv ER (sched m) (K (c, k)) (kcell (c, k)) := by
  have h : (bigSep Finset.univ fun ck : Dev nD × Key => (cellInv ER (sched m) (K ck) (kcell ck) : sProp 𝕄)) ⊢ cellInv ER (sched m) (K (c, k)) (kcell (c, k)) :=
    bigSep_elim (Finset.mem_univ (c, k))
  unfold records; iintro ⟨H, -⟩
  iapply h; iexact H
omit [FloatOps F] in
theorem reached_at (c : Dev nD) (k : Key) : records (F := F) m K ⊢ reached ER (kcell (c, k)) 0 := by
  have h : (bigSep Finset.univ fun ck : Dev nD × Key => (reached ER (kcell ck) 0 : sProp 𝕄)) ⊢ reached ER (kcell (c, k)) 0 :=
    bigSep_elim (Finset.mem_univ (c, k))
  unfold records; iintro ⟨-, H, -⟩
  iapply h; iexact H
omit [FloatOps F] in
theorem levs_of : records (F := F) m K ⊢ levAts L lv := by
  unfold records; iintro ⟨-, -, H⟩; iexact H

/-- The position on a cell, the token of its duty `false`, the credit of one block on it. -/
abbrev at₀ (g : GSem nD τ sig) : sProp 𝕄 := atPos ER g 0 ∅ 0
abbrev at₁ (g : GSem nD τ sig) : sProp 𝕄 := atPos ER g 1 ∅ 0
abbrev tok (g : GSem nD τ sig) : sProp 𝕄 := dutyTok ER g 0 false
abbrev crd (g : GSem nD τ sig) : sProp 𝕄 := cred (tallyAt g () N)

omit [FloatOps F] in
theorem mayWait_none (c : Dev nD) (sm : SemLoc sig) : (levAts L lv : sProp 𝕄) ⊢ MayWait (c : Thread nD τ) sm () 0 := by
  rw [MayWait_zero]; iintro -; iempintro

omit [FloatOps F] in
/-- A block as a transfer's view has it. -/
theorem sPts_view (c : Dev nD) (r : Fin 4) (f : S256x512.Idx → Elt F .bf16) :
    sPts (F := F) c r f = ((sBlk r).view.loc (c : Thread nD τ) ↦[(sBlk r).view.set]{fullShare} f) := by
  unfold sPts; rw [sBlk_set]
omit [FloatOps F] in
theorem vPts_view (n c : Dev nD) (r : Fin 4) (q : PosShare TreeShare) (f : S512x512.Idx → Elt F .bf16) :
    vPts (F := F) n (hB c r) q f = ((hBlk c r).view.loc (n : Thread nD τ) ↦[(hBlk c r).view.set]{q} f) := by
  unfold vPts; rw [hBlk_set]

/-! ## A wait on one of the device's own semaphores -/

theorem wait_own (c : Dev nD) (k : Own) {w : TpuEff nD τ sig (Elt F) Λ₀ .tc PUnit} {n : ℕ} (a : ℕ)
    (hw : ∀ K' : PUnit → sProp 𝕄, wpE (defs₀ (F := F)) 𝒱₀ (c : Thread nD τ) none Set.univ w K' = waitSpec (c : Thread nD τ) Set.univ (osem k) n K')
    (hn : n = a) (ha : amt (osem k) = a) (O : CellTallies nD τ sig Unit) (hO : (levAts L lv : sProp 𝕄) ⊢ MayWait (c : Thread nD τ) (osem k) () O)
    (p : Body F) (Q : PUnit → sProp 𝕄) :
    iprop(records m K ∗ cred (tallyAt (kcell (c, .inr k)) () a) ∗ at₀ (kcell (c, .inr k)) ∗ owing c O)
      ⊢ iprop(((at₁ (kcell (c, .inr k)) ∗ pay m (kcell (c, .inr k)) false ∗ owing c O) -∗ run c p Q) -∗ run c (.op w fun _ => p) Q) := by
  subst hn
  unfold owing
  iintro ⟨#HR, Hc, Hat, ⟨%W, HO⟩⟩ Hk
  iapply (Rounds.wp_wait_rest_token 𝒱₀ ER (sched m) (c : Thread nD τ) none (κ := K (c, .inr k)) hw (Set.mem_univ _) () (O := O) (W := W)
    (R := 0) (m := 0) (T := ∅) (by rw [Nat.zero_add]; exact ((expect_own m c k).trans ha).symm)) $$ [Hc Hat HO]
  · isplitr; · iapply (inv_at m K c (.inr k)); iexact HR
    isplitl [Hc]; · iexact Hc
    isplitl [HO]; · iexact HO
    isplitr; · iapply hO; iapply (levs_of m K); iexact HR
    iexact Hat
  iintro ⟨HO, Hat, -, Hp⟩
  ihave Hp := (Entails.of_eq (rest_own m c k)) $$ Hp
  iapply Hk
  isplitl [Hat]; · iexact Hat
  isplitl [Hp]; · iexact Hp
  iexists _; iexact HO

/-! ## The sends along y -/

def sendIn (c : Dev nD) (r : Fin 4) : sProp 𝕄 :=
  iprop(sPts c r (sent m c) ∗ (∃ f, vPts (F := F) (ynbr c) (hB c r) fullShare f) ∗ tok (ySendC c r) ∗ tok (yRecvC (ynbr c) r))

theorem send_spec (c : Dev nD) (r : Fin 4) (p : Body F) (Q : PUnit → sProp 𝕄) :
    iprop(records m K ∗ sendIn m c r ∗ owing c (owV c r.val))
      ⊢ iprop(((crd (ySendC c r) ∗ owing c (owV c (r.val + 1))) -∗ run c p Q) -∗ run c (sendBlock c (ynbr c) r p) Q) := by
  unfold sendIn sendBlock owing
  iintro ⟨#HR, ⟨Hs, ⟨%fd, Hv⟩, Ht₁, Ht₂⟩, ⟨%W, HO⟩⟩ Hk
  iapply (Rounds.wp_send_pointsTo 𝒱₀ ER (sched m) (c : Thread nD τ) none (c' := (ynbr c : Thread nD τ)) (src := sBlk r) (dst := hBlk c r)
      (sS := .dma (ySend r)) (sem := .dma (yRecv r)) (κ₁ := K (c, leg 0 r)) (κ₂ := K (ynbr c, leg 1 r))
      (q := fullShare) (fs := sent m c) (fd := fd) (r₁ := 0) (r₂ := 0) (d₁ := false) (d₂ := false)
      (mem_own m c (.inl (0, r))) (mem_own m (ynbr c) (.inl (1, r))) () () N (credit_h c r) (amt_leg 0 r) (amt_leg 1 r)
      (owV c (r.val + 1)) (owV_step c r) (W := W)
      (by
        show _ ⊢ pay m (ySendC c r) false
        rw [pay_ySend, sPts_view])
      (by
        show _ ⊢ pay m (yRecvC (ynbr c) r) false
        rw [pay_yRecv, hB_ynbr]; unfold vPts; rw [hBlk_set]
        exact Entails.of_eq (pointsTo_congr fun i hi => land_y m c r fd hi))) $$ [Hs Hv Ht₁ Ht₂ HO]
  · isplitr; · iapply (inv_at m K c (leg 0 r)); iexact HR
    isplitr; · iapply (inv_at m K (ynbr c) (leg 1 r)); iexact HR
    isplitl [Hs]; · rw [← sPts_view]; iexact Hs
    isplitl [Hv]; · rw [← vPts_view]; iexact Hv
    isplitl [HO]; · iexact HO
    isplitl [Ht₁]; · iexact Ht₁
    isplitr; · iapply (reached_at m K c (leg 0 r)); iexact HR
    isplitl [Ht₂]; · iexact Ht₂
    iapply (reached_at m K (ynbr c) (leg 1 r)); iexact HR
  iintro ⟨Hc, HO⟩
  iapply Hk
  isplitl [Hc]; · iexact Hc
  iexists W; iexact HO

/-! ## Normalising a block -/

/-- The buffers every normalisation reads: the device's rows, the weights, the residual's copy. -/
def reads (c : Dev nD) : sProp 𝕄 :=
  iprop((((c : Thread nD τ).loc cc0_stg0_0) ↦{fullShare} part m c) ∗ (((c : Thread nD τ).loc cc0_stg1_0) ↦{fullShare} wts m c) ∗ rPts c (resid m c))

theorem vM_setOn {o h} {b : Fin 8} (ho : o = ![64 * b.val, 0]) : vM.view.setOn (dRect o h).set ⊆ rows b :=
  ((View.set_slice _ _).symm.trans (vM_access_set (h := h) ho)).subset
theorem oM_setOn {o h} {b : Fin 8} (ho : o = ![64 * b.val, 0]) : oM.view.setOn (dRect o h).set ⊆ rows b :=
  ((View.set_slice _ _).symm.trans (oM_access_set (h := h) ho)).subset

/-- The normalised block, stored, as the result's block. -/
theorem oPts_stored (c : Dev nD) {o h} {b : Fin 8} (ho : o = ![64 * b.val, 0]) (fd : S512x512.Idx → Elt F .bf16) :
    (((oM.access (dRect o h)).loc (c : Thread nD τ)) ↦[rows b]{fullShare} ((oM.access (dRect o h)).write (Elt F) fd
      (k0_pay6 (blk3 (part m c) b) (blk2 (landed m c) b) (blk2 (resid m c) b) (wts m c)) Finset.univ) : sProp 𝕄) = oPts c b (normed m c) :=
  pointsTo_congr fun i hi => store_o m c (h := h) ho fd hi

/-- The rows of block `b` normalised, any share of the landed rows in hand. -/
theorem norm_spec (c : Dev nD) (b : Fin 8) {o₃ h₃ o₂ h₂ hp} (ho₃ : o₃ = ![0, 64 * b.val, 0]) (ho₂ : o₂ = ![64 * b.val, 0])
    (q : PosShare TreeShare) (p : Body F) (Q : PUnit → sProp 𝕄) :
    iprop(reads m c ∗ vPts c b q (landed m c) ∗ ∃ f, oPts (F := F) c b f)
      ⊢ iprop(((reads m c ∗ vPts c b q (landed m c) ∗ oPts c b (normed m c)) -∗ run c p Q) -∗ run c (normRows o₃ h₃ o₂ h₂ hp p) Q) := by
  unfold reads normRows rPts vPts oPts
  iintro ⟨⟨Hp, Hg, Hr⟩, Hv, ⟨%f, Ho⟩⟩ Hk
  iapply (wp_load 𝒱₀ (c : Thread nD τ) none Set.univ (m := pM) (Finset.subset_univ _)) $$ Hp; iintro Hp
  rw [readAt_p ho₃]
  iapply (wp_load 𝒱₀ (c : Thread nD τ) none Set.univ (m := vM) (vM_setOn ho₂)) $$ Hv; iintro Hv
  rw [readAt_v ho₂]
  iapply (wp_load 𝒱₀ (c : Thread nD τ) none Set.univ (m := rM) (Finset.subset_univ _)) $$ Hr; iintro Hr
  rw [readAt_r ho₂]
  iapply (wp_load 𝒱₀ (c : Thread nD τ) none Set.univ (m := gM) (Finset.subset_univ _)) $$ Hg; iintro Hg
  rw [readAt_g]
  iapply (wp_load 𝒱₀ (c : Thread nD τ) none Set.univ (m := oM) (oM_setOn ho₂)) $$ Ho; iintro Ho
  iapply (wp_store 𝒱₀ (c : Thread nD τ) none Set.univ (m := oM) (r := dRect o₂ h₂) (Mk := Finset.univ) (oM_access_set ho₂).subset) $$ Ho
  iintro Ho
  iapply Hk
  isplitl [Hp Hg Hr]
  · isplitl [Hp]; · iexact Hp
    isplitl [Hg]; · iexact Hg
    iexact Hr
  isplitl [Hv]; · iexact Hv
  ihave Ho := (Entails.of_eq (oPts_stored m c (h := h₂) ho₂ f)) $$ Ho
  unfold oPts
  iexact Ho

/-! ## A block of the y half -/

def hIn (c : Dev nD) (r : Fin 4) : sProp 𝕄 :=
  iprop((crd (ySendC c r) ∗ at₀ (ySendC c r)) ∗ (crd (yRecvC c r) ∗ at₀ (yRecvC c r)) ∗ (tok (fSendC c r) ∗ tok (fRecvC (xnbr c) r))
    ∗ (∃ f, vPts (F := F) (xnbr c) (hB c r) fullShare f) ∗ ∃ f, oPts (F := F) c (hB c r) f)
def hOut (c : Dev nD) (r : Fin 4) : sProp 𝕄 :=
  iprop((at₁ (ySendC c r) ∗ at₁ (yRecvC c r)) ∗ sPts c r (sent m c) ∗ vPts c (hB c r) keepShare (landed m c) ∗ oPts c (hB c r) (normed m c)
    ∗ crd (fSendC c r))

theorem pass_spec (c : Dev nD) (r : Fin 4) (p : Body F) (Q : PUnit → sProp 𝕄) :
    iprop(records m K ∗ (tok (fSendC c r) ∗ tok (fRecvC (xnbr c) r)) ∗ vPts c (hB c r) lendShare (landed m c)
        ∗ (∃ f, vPts (F := F) (xnbr c) (hB c r) fullShare f) ∗ owing c (owF c r.val))
      ⊢ iprop(((crd (fSendC c r) ∗ owing c (owF c (r.val + 1))) -∗ run c p Q) -∗ run c (passBlock c (xnbr c) r p) Q) := by
  unfold passBlock owing
  iintro ⟨#HR, ⟨Ht₁, Ht₂⟩, Hs, ⟨%fd, Hv⟩, ⟨%W, HO⟩⟩ Hk
  iapply (Rounds.wp_send_pointsTo 𝒱₀ ER (sched m) (c : Thread nD τ) none (c' := (xnbr c : Thread nD τ)) (src := hBlk c r) (dst := hBlk c r)
      (sS := .dma (fSend r)) (sem := .dma (fRecv r)) (κ₁ := K (c, leg 2 r)) (κ₂ := K (xnbr c, leg 3 r))
      (q := lendShare) (fs := landed m c) (fd := fd) (r₁ := 0) (r₂ := 0) (d₁ := false) (d₂ := false)
      (mem_own m c (.inl (2, r))) (mem_own m (xnbr c) (.inl (3, r))) () () N (credit_h c r) (amt_leg 2 r) (amt_leg 3 r)
      (owF c (r.val + 1)) (owF_step c r) (W := W)
      (by
        show _ ⊢ pay m (fSendC c r) false
        rw [pay_fSend, vPts_view])
      (by
        show _ ⊢ pay m (fRecvC (xnbr c) r) false
        rw [pay_fRecv, cB_xnbr]; unfold vPts; rw [hBlk_set]
        exact Entails.of_eq (pointsTo_congr fun i hi => land_x m c r fd hi))) $$ [Hs Hv Ht₁ Ht₂ HO]
  · isplitr; · iapply (inv_at m K c (leg 2 r)); iexact HR
    isplitr; · iapply (inv_at m K (xnbr c) (leg 3 r)); iexact HR
    isplitl [Hs]; · rw [← vPts_view]; iexact Hs
    isplitl [Hv]; · rw [← vPts_view]; iexact Hv
    isplitl [HO]; · iexact HO
    isplitl [Ht₁]; · iexact Ht₁
    isplitr; · iapply (reached_at m K c (leg 2 r)); iexact HR
    isplitl [Ht₂]; · iexact Ht₂
    iapply (reached_at m K (xnbr c) (leg 3 r)); iexact HR
  iintro ⟨Hc, HO⟩
  iapply Hk
  isplitl [Hc]; · iexact Hc
  iexists W; iexact HO

theorem stepH_spec (c : Dev nD) (r : Fin 4) (p : Body F) (Q : PUnit → sProp 𝕄) :
    iprop(records m K ∗ hIn c r ∗ (reads m c ∗ owing c (owF c r.val)))
      ⊢ iprop(((hOut m c r ∗ (reads m c ∗ owing c (owF c (r.val + 1)))) -∗ run c p Q) -∗ run c (stepH c (xnbr c) r p) Q) := by
  unfold hIn hOut stepH takeBlock
  iintro ⟨#HR, ⟨⟨Hc₁, Ha₁⟩, ⟨Hc₂, Ha₂⟩, Ht, Hn, Ho⟩, Hrd, HO⟩ Hk
  iapply (wait_own m K c (.inl (0, r)) N (wpE_waitDma2_eq 𝒱₀ (c : Thread nD τ) none Set.univ) (credit_s r) (amt_leg 0 r) _
    (mayWait_owF c _ r.val (by show lvS (.dma (ySend r)) < 3; rw [lvS_ySend]; decide))) $$ [Hc₁ Ha₁ HO]
  · isplitr; · iexact HR
    isplitl [Hc₁]; · iexact Hc₁
    isplitl [Ha₁] <;> iassumption
  iintro ⟨Ha₁, Hs, HO⟩
  ihave Hs := (Entails.of_eq (pay_ySend m c r false)) $$ Hs
  iapply (wait_own m K c (.inl (1, r)) N (wpE_waitDma2_eq 𝒱₀ (c : Thread nD τ) none Set.univ) (credit_h c r) (amt_leg 1 r) _
    (mayWait_owF c _ r.val (by show lvS (.dma (yRecv r)) < 3; rw [lvS_yRecv]; decide))) $$ [Hc₂ Ha₂ HO]
  · isplitr; · iexact HR
    isplitl [Hc₂]; · iexact Hc₂
    isplitl [Ha₂] <;> iassumption
  iintro ⟨Ha₂, Hv, HO⟩
  ihave Hv := (Entails.of_eq (pay_yRecv m c r false)) $$ Hv
  ihave Hv := (show vPts c (hB c r) fullShare (landed m c) ⊢ iprop(vPts c (hB c r) keepShare (landed m c) ∗ vPts (F := F) c (hB c r) lendShare (landed m c))
    from (pointsTo_share (PosShare.mem_left_op_right fullShare)).1) $$ Hv
  icases Hv with ⟨Hv, Hl⟩
  iapply (pass_spec m K c r) $$ [Ht Hl Hn HO]
  · isplitr; · iexact HR
    isplitl [Ht]; · iexact Ht
    isplitl [Hl]; · iexact Hl
    isplitl [Hn] <;> iassumption
  iintro ⟨Hc, HO⟩
  iapply (norm_spec m c (hB c r) (off3_hB c r) (off4_hB c r) keepShare) $$ [Hrd Hv Ho]
  · isplitl [Hrd]; · iexact Hrd
    isplitl [Hv] <;> iassumption
  iintro ⟨Hrd, Hv, Ho⟩
  iapply Hk
  isplitr [Hrd HO]
  · isplitl [Ha₁ Ha₂]
    · isplitl [Ha₁] <;> iassumption
    isplitl [Hs]; · iexact Hs
    isplitl [Hv]; · iexact Hv
    isplitl [Ho] <;> iassumption
  isplitl [Hrd] <;> iassumption

/-! ## A block of the other half -/

def cIn (c : Dev nD) (r : Fin 4) : sProp 𝕄 :=
  iprop((crd (fRecvC c r) ∗ at₀ (fRecvC c r)) ∗ ∃ f, oPts (F := F) c (cB c r) f)
def cOut (c : Dev nD) (r : Fin 4) : sProp 𝕄 :=
  iprop(at₁ (fRecvC c r) ∗ vPts c (cB c r) fullShare (landed m c) ∗ oPts c (cB c r) (normed m c))

theorem stepC_spec (c : Dev nD) (r : Fin 4) (p : Body F) (Q : PUnit → sProp 𝕄) :
    iprop(records m K ∗ cIn c r ∗ (reads m c ∗ owing c 0))
      ⊢ iprop(((cOut m c r ∗ (reads m c ∗ owing c 0)) -∗ run c p Q) -∗ run c (stepC c r p) Q) := by
  unfold cIn cOut stepC landBlock
  iintro ⟨#HR, ⟨⟨Hc, Ha⟩, Ho⟩, Hrd, HO⟩ Hk
  iapply (wait_own m K c (.inl (3, r)) N (wpE_waitDma2_eq 𝒱₀ (c : Thread nD τ) none Set.univ) (credit_c c r) (amt_leg 3 r) 0
    (mayWait_none c _)) $$ [Hc Ha HO]
  · isplitr; · iexact HR
    isplitl [Hc]; · iexact Hc
    isplitl [Ha] <;> iassumption
  iintro ⟨Ha, Hv, HO⟩
  ihave Hv := (Entails.of_eq (pay_fRecv m c r false)) $$ Hv
  iapply (norm_spec m c (cB c r) (off6_cB c r) (off7_cB c r) fullShare) $$ [Hrd Hv Ho]
  · isplitl [Hrd]; · iexact Hrd
    isplitl [Hv] <;> iassumption
  iintro ⟨Hrd, Hv, Ho⟩
  iapply Hk
  isplitr [Hrd HO]
  · isplitl [Ha]; · iexact Ha
    isplitl [Hv] <;> iassumption
  isplitl [Hrd] <;> iassumption

/-! ## The forwards drained -/

def dIn (c : Dev nD) (r : Fin 4) : sProp 𝕄 := iprop(crd (F := F) (fSendC c r) ∗ at₀ (fSendC c r))
def dOut (c : Dev nD) (r : Fin 4) : sProp 𝕄 := iprop(at₁ (fSendC c r) ∗ vPts c (hB c r) lendShare (landed m c))

theorem drain_spec (c : Dev nD) (r : Fin 4) (p : Body F) (Q : PUnit → sProp 𝕄) :
    iprop(records m K ∗ dIn c r ∗ owing c 0)
      ⊢ iprop(((dOut m c r ∗ owing c 0) -∗ run c p Q) -∗ run c (drainBlock c r p) Q) := by
  unfold dIn dOut drainBlock
  iintro ⟨#HR, ⟨Hc, Ha⟩, HO⟩ Hk
  iapply (wait_own m K c (.inl (2, r)) N (wpE_waitDma2_eq 𝒱₀ (c : Thread nD τ) none Set.univ) (credit_h c r) (amt_leg 2 r) 0
    (mayWait_none c _)) $$ [Hc Ha HO]
  · isplitr; · iexact HR
    isplitl [Hc]; · iexact Hc
    isplitl [Ha] <;> iassumption
  iintro ⟨Ha, Hv, HO⟩
  ihave Hv := (Entails.of_eq (pay_fSend m c r false)) $$ Hv
  iapply Hk
  isplitr [HO]
  · isplitl [Ha] <;> iassumption
  iexact HO

/-! ## Four blocks in a row -/

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A step taken at each block, each with its own resources, a state passed through. -/
theorem four (c : Dev nD) (step : Fin 4 → Body F → Body F) (R : sProp 𝕄) [BI.Persistent R] (A B : Fin 4 → sProp 𝕄) (S : ℕ → sProp 𝕄)
    (Q : PUnit → sProp 𝕄)
    (h : ∀ r n n' p, r.val = n → r.val + 1 = n' → iprop(R ∗ A r ∗ S n) ⊢ iprop(((B r ∗ S n') -∗ run c p Q) -∗ run c (step r p) Q)) (p : Body F) :
    iprop(R ∗ bigSep Finset.univ A ∗ S 0)
      ⊢ iprop(((bigSep Finset.univ B ∗ S 4) -∗ run c p Q) -∗ run c (step 0 (step 1 (step 2 (step 3 p)))) Q) := by
  rw [bigSep_four, bigSep_four]
  iintro ⟨#HR, ⟨HA0, HA1, HA2, HA3⟩, HS⟩ Hk
  iapply (h 0 0 1 _ rfl rfl) $$ [HA0 HS]
  · isplitr; · iexact HR
    isplitl [HA0]; · iexact HA0
    iexact HS
  iintro ⟨HB0, HS⟩
  iapply (h 1 1 2 _ rfl rfl) $$ [HA1 HS]
  · isplitr; · iexact HR
    isplitl [HA1]; · iexact HA1
    iexact HS
  iintro ⟨HB1, HS⟩
  iapply (h 2 2 3 _ rfl rfl) $$ [HA2 HS]
  · isplitr; · iexact HR
    isplitl [HA2]; · iexact HA2
    iexact HS
  iintro ⟨HB2, HS⟩
  iapply (h 3 3 4 _ rfl rfl) $$ [HA3 HS]
  · isplitr; · iexact HR
    isplitl [HA3]; · iexact HA3
    iexact HS
  iintro ⟨HB3, HS⟩
  iapply Hk
  isplitr [HS]
  · isplitl [HB0]; · iexact HB0
    isplitl [HB1]; · iexact HB1
    isplitl [HB2]; · iexact HB2
    iexact HB3
  iexact HS

end Cert.AllReduceNorm

end
-- ==== Proof.Body.lean ====
/-
# The body on a device

The entry and the residual's wait (`enter_spec`, `awaitResid_spec`), the buffers split into the protocol's blocks and joined
again, and the whole walk: from what a device starts with to the normalised result, every buffer and semaphore given back
(`walk_spec`).
-/
module

public import proofs.«01_k».proof.Proof.Steps

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Key → ℕ)

/-! ## Splitting and joining the buffers -/

omit [FloatOps F] in
theorem sep_regroup (P Q R : sProp 𝕄) : iprop((P ∗ Q) ∗ R) = iprop(P ∗ Q ∗ R) := equiv_iff.mp ⟨BI.sep_assoc, BI.sep_assoc'⟩

/-- The eight blocks are those of the y half and those of the other. -/
def hBEmb (c : Dev nD) : Fin 4 ↪ Fin 8 := ⟨hB c, fun r r' h => Fin.ext (by have := congrArg Fin.val h; simp only [hB] at this; omega)⟩
def cBEmb (c : Dev nD) : Fin 4 ↪ Fin 8 := ⟨cB c, fun r r' h => Fin.ext (by
  have := congrArg Fin.val h; have hc : c.val < 8 := c.isLt; simp only [cB] at this; omega)⟩

omit [FloatOps F] in
theorem halves (c : Dev nD) (Φ : Fin 8 → sProp 𝕄) :
    bigSep Finset.univ Φ = iprop((bigSep Finset.univ fun r : Fin 4 => Φ (hB c r)) ∗ bigSep Finset.univ fun r : Fin 4 => Φ (cB c r)) := by
  have hu : (Finset.univ : Finset (Fin 8)) = Finset.univ.map (hBEmb c) ∪ Finset.univ.map (cBEmb c) := by revert c; decide
  have hd : Disjoint (Finset.univ.map (hBEmb c)) (Finset.univ.map (cBEmb c)) := by revert c; decide
  rw [hu, bigSep_union hd, bigSep_map, bigSep_map]; rfl

omit [FloatOps F] in
theorem v_blocks (c : Dev nD) (q : PosShare TreeShare) (f : S512x512.Idx → Elt F .bf16) :
    (((c : Thread nD τ).loc cc0_scratch1) ↦{q} f : sProp 𝕄) = bigSep Finset.univ fun b : Fin 8 => vPts c b q f := by
  unfold vPts
  rw [← rows_biUnion]
  exact pointsTo_biUnion _ _ fun b _ b' _ h => rows_disjoint h
omit [FloatOps F] in
theorem o_blocks (c : Dev nD) (f : S512x512.Idx → Elt F .bf16) :
    (((c : Thread nD τ).loc cc0_stg2_0) ↦{fullShare} f : sProp 𝕄) = bigSep Finset.univ fun b : Fin 8 => oPts c b f := by
  unfold oPts
  rw [← rows_biUnion]
  exact pointsTo_biUnion _ _ fun b _ b' _ h => rows_disjoint h
omit [FloatOps F] in
theorem s_blocks (c : Dev nD) (f : S256x512.Idx → Elt F .bf16) :
    (((c : Thread nD τ).loc cc0_scratch0) ↦{fullShare} f : sProp 𝕄) = bigSep Finset.univ fun r : Fin 4 => sPts c r f := by
  unfold sPts
  rw [← sRows_biUnion]
  exact pointsTo_biUnion _ _ fun b _ b' _ h => sRows_disjoint h

omit [FloatOps F] in
theorem some_of {α : Type} (Φ : α → sProp 𝕄) (f : α) : Φ f ⊢ iprop(∃ f, Φ f) := by iintro H; iexists f; iexact H

omit [FloatOps F] in
/-- A device's landing buffer is what it lends its two neighbours. -/
theorem lend (c : Dev nD) (f : S512x512.Idx → Elt F .bf16) :
    (((c : Thread nD τ).loc cc0_scratch1) ↦{fullShare} f : sProp 𝕄) ⊢ iprop(lent (F := F) c (ynbr c) ∗ lent (F := F) c (xnbr c)) := by
  rw [v_blocks, halves c]
  unfold lent
  simp only [hB_ynbr, hB_xnbr]
  exact BI.sep_mono
    (bigSep_mono fun r _ => some_of _ f)
    (bigSep_mono fun r _ => some_of _ f)

omit [FloatOps F] in
theorem o_split (c : Dev nD) (f : S512x512.Idx → Elt F .bf16) :
    (((c : Thread nD τ).loc cc0_stg2_0) ↦{fullShare} f : sProp 𝕄)
      ⊢ iprop((bigSep Finset.univ fun r : Fin 4 => iprop(∃ f, oPts (F := F) c (hB c r) f))
          ∗ bigSep Finset.univ fun r : Fin 4 => iprop(∃ f, oPts (F := F) c (cB c r) f)) := by
  rw [o_blocks, halves c]
  exact BI.sep_mono
    (bigSep_mono fun r _ => some_of _ f)
    (bigSep_mono fun r _ => some_of _ f)

omit [FloatOps F] in
/-- The landing buffer whole again: of the y half the share kept and the share lent, of the other half all. -/
theorem v_join (c : Dev nD) (f : S512x512.Idx → Elt F .bf16) :
    iprop((bigSep Finset.univ fun r : Fin 4 => vPts (F := F) c (hB c r) keepShare f)
        ∗ (bigSep Finset.univ fun r : Fin 4 => vPts (F := F) c (hB c r) lendShare f)
        ∗ bigSep Finset.univ fun r : Fin 4 => vPts (F := F) c (cB c r) fullShare f)
      ⊢ (((c : Thread nD τ).loc cc0_scratch1) ↦{fullShare} f : sProp 𝕄) := by
  rw [v_blocks, halves c, ← sep_regroup, ← bigSep_sep']
  exact sep_mono_left (bigSep_mono fun r _ => (pointsTo_share (PosShare.mem_left_op_right fullShare)).2)

/-! ## The entry and the residual's wait -/

theorem one_word : (1#32).toInt = ((1 : ℕ) : ℤ) := by decide
theorem two_word : (2#32).toInt = ((2 : ℕ) : ℤ) := by decide

theorem pay_bar_y (c : Dev nD) : (sched (F := F) m).payload (barC (ynbr c)) 0 false = lent c (ynbr c) := by
  show lent (ynbr (ynbr c)) (ynbr c) = _; rw [ynbr_ynbr]
theorem pay_bar_x (c : Dev nD) : (sched (F := F) m).payload (barC (xnbr c)) 0 true = lent c (xnbr c) := by
  show lent (xnbr (xnbr c)) (xnbr c) = _; rw [xnbr_xnbr]

/-- What the entry spends besides the buffers: the tokens of its two signals and of the copy. -/
def enterToks (c : Dev nD) : sProp 𝕄 :=
  iprop(dutyTok ER (barC (ynbr c)) 0 false ∗ dutyTok ER (barC (xnbr c)) 0 true ∗ tok (F := F) (copyC c))

theorem rM_set : rM.view.set = Finset.univ := View.set_whole cc0_scratch2
theorem xM_set : xM.view.set = Finset.univ := View.set_whole main_arg1
omit [FloatOps F] in
theorem xM_read (f : S512x512.Idx → Elt F .f32) : xM.view.read (Elt F) f = f := View.read_whole main_arg1 f
omit [FloatOps F] in
theorem rM_write (f w : S512x512.Idx → Elt F .f32) : rM.view.write (Elt F) f w Finset.univ = w := View.write_whole_univ cc0_scratch2 f w
omit [FloatOps F] in
theorem rPts_landed (c : Dev nD) (fd : S512x512.Idx → Elt F .f32) :
    (rM.view.loc (c : Thread nD τ) ↦[rM.view.set]{fullShare} (rM.view.write (Elt F) fd (xM.view.read (Elt F) (resid m c)) Finset.univ) : sProp 𝕄)
      = rPts c (resid m c) := by
  rw [xM_read, rM_write, rM_set]
  rfl
omit [FloatOps F] in
theorem xPts_set (c : Dev nD) (f : S512x512.Idx → Elt F .f32) :
    (xM.view.loc (c : Thread nD τ) ↦[xM.view.set]{fullShare} f : sProp 𝕄) = xPts c f := by
  rw [xM_set]
  rfl

theorem copy_lands (c : Dev nD) (fd : S512x512.Idx → Elt F .f32) :
    iprop((rM.view.loc (c : Thread nD τ) ↦[rM.view.set]{fullShare} (rM.view.write (Elt F) fd (xM.view.read (Elt F) (resid m c)) Finset.univ))
        ∗ (xM.view.loc (c : Thread nD τ) ↦[xM.view.set]{fullShare} resid m c)) ⊢ pay m (copyC c) false := by
  rw [pay_copy]
  iintro ⟨Hr, Hx⟩
  isplitl [Hr]
  · ihave Hr := (Entails.of_eq (rPts_landed m c fd)) $$ Hr; iexact Hr
  · ihave Hx := (Entails.of_eq (xPts_set c (resid m c))) $$ Hx; iexact Hx

theorem enter_spec (c : Dev nD) (p : Body F) (Q : PUnit → sProp 𝕄) :
    iprop(records m K ∗ enterToks c ∗ (cred (tallyAt (barC c) () 2) ∗ at₀ (barC c))
        ∗ (∃ f : S512x512.Idx → Elt F .bf16, ((c : Thread nD τ).loc cc0_scratch1) ↦{fullShare} f)
        ∗ (∃ f, rPts (F := F) c f) ∗ xPts c (resid m c) ∗ (((c : Thread nD τ).loc cc0_stg0_0) ↦{fullShare} part m c)
        ∗ (∃ f : S256x512.Idx → Elt F .bf16, ((c : Thread nD τ).loc cc0_scratch0) ↦{fullShare} f) ∗ owing c (ow₀ c))
      ⊢ iprop(((at₁ (barC c) ∗ lent (F := F) (ynbr c) c ∗ lent (F := F) (xnbr c) c ∗ cred (tallyAt (copyC c) () NC)
          ∗ (((c : Thread nD τ).loc cc0_stg0_0) ↦{fullShare} part m c)
          ∗ (((c : Thread nD τ).loc cc0_scratch0) ↦{fullShare} sent m c) ∗ owing c (owV c 0)) -∗ run c p Q)
        -∗ run c (enter c (ynbr c) (xnbr c) p) Q) := by
  unfold enterToks enter owing
  rw [one_word, two_word]
  iintro ⟨#HR, ⟨Ht₁, Ht₂, Ht₃⟩, ⟨Hcb, Hab⟩, ⟨%fv, Hv⟩, ⟨%fr, Hr⟩, Hx, Hp, ⟨%fs, Hs⟩, ⟨%W, HO⟩⟩ Hk
  ihave Hv := (lend (F := F) c fv) $$ Hv
  icases Hv with ⟨Hvy, Hvx⟩
  -- the signals, each with the rows the neighbour will write
  iapply (Rounds.wp_signal 𝒱₀ ER (sched m) (c : Thread nD τ) none (dst := (ynbr c : Thread nD τ)) (κ := K (ynbr c, bar))
      (d := false) (k' := 1) (by rw [duties_bar]; exact Finset.mem_univ _) rfl () (ow₁ c) rfl) $$ [HO Ht₁ Hvy]
  · isplitr; · iapply (inv_at m K (ynbr c) bar); iexact HR
    isplitl [HO]; · iexact HO
    isplitl [Ht₁]; · iexact Ht₁
    isplitl [Hvy]; · rw [pay_bar_y]; iexact Hvy
    iapply (reached_at m K (ynbr c) bar); iexact HR
  iintro HO
  iapply (Rounds.wp_signal 𝒱₀ ER (sched m) (c : Thread nD τ) none (dst := (xnbr c : Thread nD τ)) (κ := K (xnbr c, bar))
      (d := true) (k' := 1) (by rw [duties_bar]; exact Finset.mem_univ _) rfl () (owV c 0) rfl) $$ [HO Ht₂ Hvx]
  · isplitr; · iapply (inv_at m K (xnbr c) bar); iexact HR
    isplitl [HO]; · iexact HO
    isplitl [Ht₂]; · iexact Ht₂
    isplitl [Hvx]; · rw [pay_bar_x]; iexact Hvx
    iapply (reached_at m K (xnbr c) bar); iexact HR
  iintro HO
  -- the residual's copy
  iapply (Rounds.wp_copy_pointsTo 𝒱₀ ER (sched m) (c : Thread nD τ) none (src := xM) (dst := rM) (sem := .dma copyS) (κ := K (c, copy))
      (q := fullShare) (fs := resid m c) (fd := fr) (r := 0) (d := false)
      (mem_own m c (.inr ())) () NC rfl amt_copy (copy_lands m c fr)) $$ [Hx Hr Ht₃]
  · isplitr; · iapply (inv_at m K c copy); iexact HR
    simp only [Memref.view_whole, View.set_whole]
    unfold rPts xPts
    isplitl [Hx]; · iexact Hx
    isplitl [Hr]; · iexact Hr
    isplitl [Ht₃]; · iexact Ht₃
    iapply (reached_at m K c copy); iexact HR
  iintro Hcc
  -- the half to send
  iapply (wp_load 𝒱₀ (c : Thread nD τ) none Set.univ (m := pM) (Finset.subset_univ _)) $$ Hp; iintro Hp
  iapply (wp_load 𝒱₀ (c : Thread nD τ) none Set.univ (m := sM) (Finset.subset_univ _)) $$ Hs; iintro Hs
  iapply (wp_store 𝒱₀ (c : Thread nD τ) none Set.univ (m := sM) (r := sRect) (Mk := Finset.univ) (Finset.subset_univ _)) $$ Hs
  iintro Hs
  rw [store_s]
  -- the handshake
  iapply (Rounds.wp_wait_rest_token 𝒱₀ ER (sched m) (c : Thread nD τ) none (κ := K (c, bar))
      (wpE_semWait_eq 𝒱₀ (c : Thread nD τ) none Set.univ) (Set.mem_univ _) () (O := owV c 0) (W := W) (R := 0) (m := 0) (T := ∅)
      (by rw [expect_bar])) $$ [Hcb HO Hab]
  · isplitr; · iapply (inv_at m K c bar); iexact HR
    isplitl [Hcb]; · iexact Hcb
    isplitl [HO]; · iexact HO
    isplitr
    · iapply (mayWait_owV (F := F) c (.reg barS) 0 (by decide)); iapply (levs_of m K); iexact HR
    iexact Hab
  iintro ⟨HO, Hab, -, Hl⟩
  ihave Hl := (Entails.of_eq (rest_bar m c)) $$ Hl
  icases Hl with ⟨Hly, Hlx⟩
  iapply Hk
  isplitl [Hab]; · iexact Hab
  isplitl [Hly]; · iexact Hly
  isplitl [Hlx]; · iexact Hlx
  isplitl [Hcc]; · iexact Hcc
  isplitl [Hp]; · iexact Hp
  isplitl [Hs]; · iexact Hs
  iexists _; iexact HO

theorem awaitResid_spec (c : Dev nD) (p : Body F) (Q : PUnit → sProp 𝕄) :
    iprop(records m K ∗ cred (tallyAt (copyC c) () NC) ∗ at₀ (copyC c) ∗ owing c (owF c 0))
      ⊢ iprop(((at₁ (copyC c) ∗ rPts c (resid m c) ∗ xPts c (resid m c) ∗ owing c (owF c 0)) -∗ run c p Q) -∗ run c (awaitResid p) Q) := by
  unfold awaitResid
  iintro ⟨#HR, Hc, Ha, HO⟩ Hk
  iapply (wait_own m K c (.inr ()) NC (wpE_waitDma2_eq 𝒱₀ (c : Thread nD τ) none Set.univ) rfl amt_copy _
    (mayWait_owF c _ 0 (by show lvS (.dma copyS) < 3; rw [lvS_copy]; decide))) $$ [Hc Ha HO]
  · isplitr; · iexact HR
    isplitl [Hc]; · iexact Hc
    isplitl [Ha] <;> iassumption
  iintro ⟨Ha, Hp, HO⟩
  ihave Hp := (Entails.of_eq (pay_copy m c false)) $$ Hp
  icases Hp with ⟨Hr, Hx⟩
  iapply Hk
  isplitl [Ha]; · iexact Ha
  isplitl [Hr]; · iexact Hr
  isplitl [Hx] <;> iassumption

/-! ## By keys -/

/-- A conjunction over the semaphores: the barrier's, the four legs', the copy's. -/
def byKey (Φ : Key → sProp 𝕄) : sProp 𝕄 :=
  iprop(Φ bar ∗ (bigSep Finset.univ fun r : Fin 4 => Φ (leg 0 r)) ∗ (bigSep Finset.univ fun r : Fin 4 => Φ (leg 1 r))
    ∗ (bigSep Finset.univ fun r : Fin 4 => Φ (leg 2 r)) ∗ (bigSep Finset.univ fun r : Fin 4 => Φ (leg 3 r)) ∗ Φ copy)

omit [FloatOps F] in
theorem bigSep_unit (Φ : Unit → sProp 𝕄) : bigSep Finset.univ Φ = Φ () := bigSep_singleton (i := ()) (Φ := Φ)

omit [FloatOps F] in
theorem bigSep_key (Φ : Key → sProp 𝕄) : bigSep Finset.univ Φ = byKey Φ := by
  unfold byKey
  rw [bigSep_univ_sum, bigSep_univ_sum, bigSep_univ_prod, bigSep_unit, bigSep_unit, bigSep_four]
  refine congrArg (BI.sep _) ?_
  exact (sep_regroup _ _ _).trans (congrArg (BI.sep _) ((sep_regroup _ _ _).trans (congrArg (BI.sep _)
    ((sep_regroup _ _ _).trans rfl))))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every semaphore of a device past its round closes at zero. -/
theorem close_all (c : Dev nD) :
    iprop(records m K ∗ bigSep Finset.univ fun k : Key => at₁ (F := F) (kcell (c, k)))
      ⊢ iprop(|={Set.univ}=> bigSep Finset.univ fun k : Key => (semVal (kcell (c, k)) 0 : sProp 𝕄)) := by
  have h : ∀ k ∈ (Finset.univ : Finset Key), iprop(records m K ∗ at₁ (F := F) (kcell (c, k))) ⊢ iprop(|={Set.univ}=> (semVal (kcell (c, k)) 0 : sProp 𝕄)) :=
    fun k _ => (sep_mono_left (inv_at m K c k)).trans
      (Rounds.cell_close ER (sched m) (Set.mem_univ (K (c, k))) (fun h => h) (R := 1) (duties_later m (kcell (c, k))))
  exact (bigSep_with_persistent h).trans (bigSep_fupd _ _)

/-! ## The walk -/

/-- The tokens a device pays with, the credit it waits with. -/
def payToks (c : Dev nD) : sProp 𝕄 :=
  iprop(enterToks (F := F) c
    ∗ ((bigSep Finset.univ fun r : Fin 4 => tok (F := F) (ySendC c r)) ∗ bigSep Finset.univ fun r : Fin 4 => tok (F := F) (yRecvC (ynbr c) r))
    ∗ (bigSep Finset.univ fun r : Fin 4 => tok (F := F) (fSendC c r)) ∗ bigSep Finset.univ fun r : Fin 4 => tok (F := F) (fRecvC (xnbr c) r))
def creds (c : Dev nD) : sProp 𝕄 :=
  iprop(cred (tallyAt (barC c) () 2) ∗ (bigSep Finset.univ fun r : Fin 4 => crd (F := F) (yRecvC c r))
    ∗ bigSep Finset.univ fun r : Fin 4 => crd (F := F) (fRecvC c r))

/-- A device's own buffers: the send buffer, the landing buffer, the residual's copy, at any contents. -/
def scratch (c : Dev nD) : sProp 𝕄 :=
  iprop((∃ f : S256x512.Idx → Elt F .bf16, ((c : Thread nD τ).loc cc0_scratch0) ↦{fullShare} f)
    ∗ (∃ f : S512x512.Idx → Elt F .bf16, ((c : Thread nD τ).loc cc0_scratch1) ↦{fullShare} f)
    ∗ ∃ f : S512x512.Idx → Elt F .f32, ((c : Thread nD τ).loc cc0_scratch2) ↦{fullShare} f)

/-- The staged buffers: `partial` and the weights, the result at `f`. -/
def staged (c : Dev nD) (f : S512x512.Idx → Elt F .bf16) : sProp 𝕄 :=
  iprop((((c : Thread nD τ).loc cc0_stg0_0) ↦{fullShare} part m c) ∗ (((c : Thread nD τ).loc cc0_stg1_0) ↦{fullShare} wts m c)
    ∗ ((c : Thread nD τ).loc cc0_stg2_0) ↦{fullShare} f)

set_option maxHeartbeats 1000000 in
theorem walk_spec (c : Dev nD) (fo : S512x512.Idx → Elt F .bf16) (Q : PUnit → sProp 𝕄) :
    iprop(records m K ∗ (bigSep Finset.univ fun k : Key => at₀ (F := F) (kcell (c, k))) ∗ payToks c ∗ creds c
        ∗ xPts c (resid m c) ∗ scratch c ∗ staged m c fo ∗ owing c (ow₀ c))
      ⊢ iprop((((bigSep Finset.univ fun k : Key => (semVal (kcell (c, k)) 0 : sProp 𝕄)) ∗ xPts c (resid m c) ∗ scratch c
          ∗ staged m c (normed m c) ∗ owing c 0) -∗ Q ⟨⟩) -∗ run c (walk c) Q) := by
  rw [bigSep_key]
  unfold byKey payToks creds scratch staged walk
  simp only [dev1_eq, dev2_eq, dev3_eq, dev4_eq, dev5_eq, dev6_eq, dev7_eq, dev8_eq, dev9_eq, dev10_eq]
  iintro ⟨#HR, ⟨Hab, Ha0, Ha1, Ha2, Ha3, Hac⟩, ⟨Hte, ⟨Ht0, Ht1⟩, Ht2, Ht3⟩, ⟨Hcb, Hc1, Hc3⟩, Hx, ⟨Hs, Hv, Hr⟩, ⟨Hp, Hg, Ho⟩, HO⟩ Hk
  iapply (enter_spec m K c) $$ [Hab Hte Hcb Hx Hs Hv Hr Hp HO]
  · isplitr; · iexact HR
    isplitl [Hte]; · iexact Hte
    isplitl [Hcb Hab]
    · isplitl [Hcb] <;> iassumption
    isplitl [Hv]; · iexact Hv
    isplitl [Hr]; · unfold rPts; iexact Hr
    isplitl [Hx]; · iexact Hx
    isplitl [Hp]; · iexact Hp
    isplitl [Hs] <;> iassumption
  iintro ⟨Hab, Hly, Hlx, Hcc, Hp, Hs, HO⟩
  -- the sends
  ihave Hs := (Entails.of_eq (s_blocks (F := F) c (sent m c))) $$ Hs
  iapply (four c (sendBlock c (ynbr c)) (records m K) (sendIn m c) (fun r => crd (F := F) (ySendC c r)) (fun n => owing c (owV c n)) Q
    (by rintro r _ _ p rfl rfl; exact send_spec m K c r p Q)) $$ [Hs Hly Ht0 Ht1 HO]
  · isplitr; · iexact HR
    isplitr [HO]
    · unfold sendIn lent
      simp only [bigSep_sep']
      isplitl [Hs]; · iexact Hs
      isplitl [Hly]; · iexact Hly
      isplitl [Ht0] <;> iassumption
    iexact HO
  iintro ⟨Hc0, HO⟩
  ihave HO := (Entails.of_eq (congrArg (owing (F := F) c) (owV_done c))) $$ HO
  -- the residual
  iapply (awaitResid_spec m K c) $$ [Hcc Hac HO]
  · isplitr; · iexact HR
    isplitl [Hcc]; · iexact Hcc
    isplitl [Hac] <;> iassumption
  iintro ⟨Hac, Hr, Hx, HO⟩
  ihave Ho := (o_split (F := F) c fo) $$ Ho
  icases Ho with ⟨Hoh, Hoc⟩
  -- the y half
  iapply (four c (stepH c (xnbr c)) (records m K) (hIn c) (hOut m c) (fun n => iprop(reads m c ∗ owing c (owF c n))) Q
    (by rintro r _ _ p rfl rfl; exact stepH_spec m K c r p Q)) $$ [Hc0 Ha0 Hc1 Ha1 Ht2 Ht3 Hlx Hoh Hp Hg Hr HO]
  · isplitr; · iexact HR
    isplitr [Hp Hg Hr HO]
    · unfold hIn lent
      simp only [bigSep_sep']
      isplitl [Hc0 Ha0]
      · isplitl [Hc0] <;> iassumption
      isplitl [Hc1 Ha1]
      · isplitl [Hc1] <;> iassumption
      isplitl [Ht2 Ht3]
      · isplitl [Ht2] <;> iassumption
      isplitl [Hlx] <;> iassumption
    unfold reads
    isplitr [HO]
    · isplitl [Hp]; · iexact Hp
      isplitl [Hg] <;> iassumption
    iexact HO
  unfold hOut
  simp only [bigSep_sep', owF_done]
  iintro ⟨⟨⟨Ha0, Ha1⟩, Hs, Hvk, Hoh, Hc2⟩, Hrd, HO⟩
  -- the other half
  iapply (four c (stepC c) (records m K) (cIn c) (cOut m c) (fun n => iprop(reads m c ∗ owing c 0)) Q
    (by rintro r _ _ p rfl rfl; exact stepC_spec m K c r p Q)) $$ [Hc3 Ha3 Hoc Hrd HO]
  · isplitr; · iexact HR
    isplitr [Hrd HO]
    · unfold cIn
      simp only [bigSep_sep']
      isplitl [Hc3 Ha3]
      · isplitl [Hc3] <;> iassumption
      iexact Hoc
    isplitl [Hrd] <;> iassumption
  unfold cOut
  simp only [bigSep_sep']
  iintro ⟨⟨Ha3, Hvc, Hoc⟩, Hrd, HO⟩
  -- the forwards drained
  iapply (four c (drainBlock c) (records m K) (dIn c) (dOut m c) (fun n => owing c 0) Q
    (by rintro r _ _ p rfl rfl; exact drain_spec m K c r p Q)) $$ [Hc2 Ha2 HO]
  · isplitr; · iexact HR
    isplitr [HO]
    · unfold dIn
      simp only [bigSep_sep']
      isplitl [Hc2] <;> iassumption
    iexact HO
  unfold dOut
  simp only [bigSep_sep']
  iintro ⟨⟨Ha2, Hvl⟩, HO⟩
  -- the semaphores closed, the buffers joined
  imod (close_all m K c) $$ [Hab Ha0 Ha1 Ha2 Ha3 Hac] with Hz
  · isplitr; · iexact HR
    rw [bigSep_key]
    unfold byKey
    isplitl [Hab]; · iexact Hab
    isplitl [Ha0]; · iexact Ha0
    isplitl [Ha1]; · iexact Ha1
    isplitl [Ha2]; · iexact Ha2
    isplitl [Ha3] <;> iassumption
  rw [wp_ret]; imodintro
  iapply Hk
  unfold reads
  icases Hrd with ⟨Hp, Hg, Hr⟩
  isplitl [Hz]; · iexact Hz
  isplitl [Hx]; · iexact Hx
  isplitl [Hs Hvk Hvl Hvc Hr]
  · isplitl [Hs]
    · iexists (sent m c); rw [s_blocks]; iexact Hs
    isplitr [Hr]
    · iexists (landed m c)
      iapply (v_join (F := F) c (landed m c))
      isplitl [Hvk]; · iexact Hvk
      isplitl [Hvl] <;> iassumption
    · iexists (resid m c); unfold rPts; iexact Hr
  isplitr [HO]
  · isplitl [Hp]; · iexact Hp
    isplitl [Hg]; · iexact Hg
    rw [o_blocks, halves c]
    isplitl [Hoh] <;> iassumption
  iexact HO

end Cert.AllReduceNorm

end
-- ==== Proof.Dealt.lean ====
/-
# What the launch deals

The ghost state of all devices' semaphores minted once and dealt: every device keeps its positions, the tokens of a duty go to
the device that pays it, and the credit of a cell is what the neighbours owe it (`creds_intro`).
-/
module

public import proofs.«01_k».proof.Proof.Body

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens -/

theorem csem_injective : Function.Injective csem := by
  have h : ∀ k k' : Key, csem k = csem k' → k = k' := by decide
  exact fun k k' => h k k'
theorem kcell_injective : Function.Injective (kcell : Dev nD × Key → GSem nD τ sig) := by
  rintro ⟨c, k⟩ ⟨c', k'⟩ h
  have hc : c = c' := congrArg (fun g : GSem nD τ sig => g.1.1) h
  have hk : k = k' := csem_injective (congrArg Prod.snd h)
  rw [hc, hk]

/-- The duties of a device's cells: the barrier's `true`, and every cell's `false`. -/
abbrev tokOf (cd : Dev nD × (Unit ⊕ Key)) : GSem nD τ sig × ℕ × Bool :=
  match cd.2 with
  | .inl _ => (barC cd.1, 0, true)
  | .inr k => (kcell (cd.1, k), 0, false)
theorem tokOf_injective : Function.Injective tokOf := by
  rintro ⟨c, d⟩ ⟨c', d'⟩ h
  rcases d with ⟨⟩ | k <;> rcases d' with ⟨⟩ | k'
  · have hc : c = c' := congrArg (fun x : GSem nD τ sig × ℕ × Bool => x.1.1.1) h
    rw [hc]
  · exact absurd (congrArg (fun x : GSem nD τ sig × ℕ × Bool => x.2.2) h) (fun h' => Bool.noConfusion h')
  · exact absurd (congrArg (fun x : GSem nD τ sig × ℕ × Bool => x.2.2) h) (fun h' => Bool.noConfusion h')
  · have hk : ((c, k) : Dev nD × Key) = (c', k') := kcell_injective (congrArg Prod.fst h)
    cases hk; rfl

def allCells : Finset (GSem nD τ sig) := Finset.univ.map ⟨kcell, kcell_injective⟩
def allToks : Finset (GSem nD τ sig × ℕ × Bool) := Finset.univ.map ⟨tokOf, tokOf_injective⟩

/-- The launch element: the pipeline's and the protocol's. -/
def u₀ : UU :=
  (initOf (Pipeline.cells cfgs cellOf_inj) (Pipeline.launchToks cfgs cellOf_inj), initOf allCells allToks)

/-- The tokens of a device's own cells. -/
def toks (c : Dev nD) : sProp 𝕄 :=
  iprop(dutyTok ER (barC c) 0 true ∗ bigSep Finset.univ fun k : Key => tok (F := F) (kcell (c, k)))

/-- A device's positions, and the marks that its cells are at round 0. -/
def posns (c : Dev nD) : sProp 𝕄 := bigSep Finset.univ fun k : Key => at₀ (F := F) (kcell (c, k))
def marks (c : Dev nD) : sProp 𝕄 := bigSep Finset.univ fun k : Key => (reached ER (kcell (c, k)) 0 : sProp 𝕄)

/-- What the launch element gives device `c`. -/
def minted (c : Dev nD) : sProp 𝕄 :=
  iprop((bigSep Finset.univ fun k : Key => (roundState ER (sched m) (kcell (c, k)) 0 : sProp 𝕄)) ∗ posns c ∗ marks c ∗ toks c)

omit [FloatOps F] in
theorem mint : BI.own (ER (initOf allCells allToks)) ⊢ (|==> bigSep Finset.univ (minted m) : sProp 𝕄) := by
  have hC (Φ : GSem nD τ sig → sProp 𝕄) :
      bigSep allCells Φ = bigSep Finset.univ fun c : Dev nD => bigSep Finset.univ fun k : Key => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_unit]
    rfl
  iintro HX
  imod (Rounds.fund ER (sched m) allCells allToks) $$ HX with ⟨Hs, Hr, Ha, Ht⟩
  imodintro
  ihave Hs := (Entails.of_eq (hC fun g => roundState ER (sched m) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold minted posns marks
  simp only [bigSep_sep']
  isplitl [Hs]; · iexact Hs
  isplitl [Ha]; · iexact Ha
  isplitl [Hr] <;> iassumption

/-! ## The semaphores -/

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
/-- The barrier's counter and the kernel's own, by keys. -/
theorem sems0_eq (c : Dev nD) :
    (bigSep Finset.univ fun k : Key => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_univ_sum, bigSep_unit, unscopedSems0_eq]
  rfl

/-! ## The tokens dealt -/

def yE : Dev nD ≃ Dev nD := ⟨ynbr, ynbr, ynbr_ynbr, ynbr_ynbr⟩
def xE : Dev nD ≃ Dev nD := ⟨xnbr, xnbr, xnbr_xnbr, xnbr_xnbr⟩

omit [FloatOps F] in
/-- Every token to the device that pays the duty. -/
theorem toks_dealt : (bigSep Finset.univ fun c : Dev nD => (toks c : sProp 𝕄)) ⊢ bigSep Finset.univ fun c : Dev nD => payToks c := by
  unfold toks payToks enterToks
  simp only [bigSep_key]
  unfold byKey
  simp only [bigSep_sep' (Finset.univ : Finset (Dev nD))]
  iintro ⟨Hb', Hb, H0, H1, H2, H3, Hc⟩
  ihave Hb := (Entails.of_eq (bigSep_univ_equiv yE (fun c : Dev nD => (tok (barC c) : sProp 𝕄)))) $$ Hb
  ihave Hb' := (Entails.of_eq (bigSep_univ_equiv xE (fun c : Dev nD => (dutyTok ER (barC c) 0 true : sProp 𝕄)))) $$ Hb'
  ihave H1 := (Entails.of_eq (bigSep_univ_equiv yE
    (fun c : Dev nD => (bigSep Finset.univ fun r : Fin 4 => tok (F := F) (yRecvC c r))))) $$ H1
  ihave H3 := (Entails.of_eq (bigSep_univ_equiv xE
    (fun c : Dev nD => (bigSep Finset.univ fun r : Fin 4 => tok (F := F) (fRecvC c r))))) $$ H3
  isplitl [Hb Hb' Hc]
  · isplitl [Hb]; · iexact Hb
    isplitl [Hb']; · iexact Hb'
    iexact Hc
  isplitl [H0 H1]
  · isplitl [H0]; · iexact H0
    iexact H1
  isplitl [H2]; · iexact H2
  iexact H3

/-! ## The global step -/

/-- The invariants of all cells and that all are at round 0. -/
def cells (K : Dev nD × Key → ℕ) : sProp 𝕄 :=
  iprop((bigSep Finset.univ fun ck : Dev nD × Key => cellInv ER (sched m) (K ck) (kcell ck))
    ∗ bigSep Finset.univ fun ck : Dev nD × Key => reached ER (kcell ck) 0)
instance cells_persistent (K : Dev nD × Key → ℕ) : BI.Persistent (cells (F := F) m K) := by unfold cells; infer_instance

/-- What device `c` starts from. -/
def dealt (c : Dev nD) : sProp 𝕄 := iprop(∃ K, cells m K ∗ posns c ∗ payToks c)

omit [FloatOps F] in
theorem core_alloc (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : Key => iprop(∃ κ : ℕ, cellInv ER (sched m) κ (kcell (c, k)))) ∗ posns c ∗ marks c ∗ toks c) := by
  have h : iprop((bigSep Finset.univ fun k : Key => (semVal (kcell (c, k)) 0 : sProp 𝕄)) ∗ bigSep Finset.univ fun k : Key => roundState ER (sched m) (kcell (c, k)) 0)
      ⊢ |={Set.univ}=> bigSep Finset.univ fun k : Key => iprop(∃ κ : ℕ, cellInv ER (sched m) κ (kcell (c, k))) := by
    rw [← bigSep_sep']
    exact (bigSep_mono fun k _ => (Rounds.body_intro ER (sched m) (kcell (c, k))).trans inv_alloc).trans (bigSep_fupd _ _)
  unfold minted
  iintro ⟨Ho, Hu, Hs, Hrest⟩
  imod (h) $$ [Ho Hu Hs] with HI
  · isplitr [Hs]
    · rw [sems0_eq]
      isplitl [Hu] <;> iassumption
    iexact Hs
  imodintro
  isplitl [HI] <;> iassumption

omit [FloatOps F] in
theorem regroup :
    (bigSep Finset.univ fun c : Dev nD => iprop((bigSep Finset.univ fun k : Key => iprop(∃ κ : ℕ, cellInv ER (sched m) κ (kcell (c, k)))) ∗ posns c ∗ marks c ∗ toks c) : sProp 𝕄)
      ⊢ bigSep Finset.univ (dealt m) := by
  have hI : (bigSep Finset.univ fun c : Dev nD => bigSep Finset.univ fun k : Key => (iprop(∃ κ : ℕ, cellInv ER (sched m) κ (kcell (c, k))) : sProp 𝕄))
      = bigSep Finset.univ fun ck : Dev nD × Key => iprop(∃ κ : ℕ, cellInv ER (sched m) κ (kcell ck)) :=
    (bigSep_univ_prod (fun ck : Dev nD × Key => (iprop(∃ κ : ℕ, cellInv ER (sched m) κ (kcell ck)) : sProp 𝕄))).symm
  have hR : (bigSep Finset.univ fun c : Dev nD => (marks c : sProp 𝕄)) = bigSep Finset.univ fun ck : Dev nD × Key => reached ER (kcell ck) 0 :=
    (bigSep_univ_prod (fun ck : Dev nD × Key => (reached ER (kcell ck) 0 : sProp 𝕄))).symm
  have hE := BI.bigSep_exists_pi Finset.univ (fun (ck : Dev nD × Key) (κ : ℕ) => (cellInv ER (sched m) κ (kcell ck) : sProp 𝕄))
  have hD (K : Dev nD × Key → ℕ) : iprop(cells m K ∗ bigSep Finset.univ fun c : Dev nD => iprop(posns (F := F) c ∗ payToks c)) ⊢ bigSep Finset.univ (dealt m) :=
    bigSep_with_persistent fun c _ => by unfold dealt; iintro H; iexists K; iexact H
  simp only [bigSep_sep' (Finset.univ : Finset (Dev nD))]
  iintro ⟨HI, Ha, Hr, Ht⟩
  ihave HI := (Entails.of_eq hI) $$ HI
  ihave Hr := (Entails.of_eq hR) $$ Hr
  ihave HK := (hE) $$ HI
  icases HK with ⟨%K, HI⟩
  ihave Ht := (toks_dealt (F := F)) $$ Ht
  iapply (hD K)
  isplitl [HI Hr]
  · unfold cells
    isplitl [HI] <;> iassumption
  rw [bigSep_sep']
  isplitl [Ha] <;> iassumption

omit [FloatOps F] in
theorem glob : (bigSep Finset.univ fun c => iprop(Pipeline.ownSems0 (Ix := Unit) (Name := ℕ) (U := UU) (Lvl := ℕ) (Val := Elt F) (τ := τ) osem c
      ∗ unscopedSems0 c ∗ minted m c) : sProp 𝕄)
    ⊢ |={Set.univ}=> bigSep Finset.univ (dealt m) :=
  ((bigSep_mono fun c _ => core_alloc m c).trans (bigSep_fupd _ _)).trans (BI.fupd_mono (regroup m))

/-! ## The launch credit -/

/-- Of what is due to a neighbour's leg, a cell of another key gets nothing; -/
theorem due_other (d c : Dev nD) (l : Fin 4) (k : Key) (h : ∀ r, k ≠ leg l r) : due (fun r => kcell (d, leg l r)) 0 (kcell (c, k)) () = 0 := by
  rw [due_at]
  refine Finset.sum_eq_zero fun r _ => if_neg fun he => ?_
  have h2 : ((c, k) : Dev nD × Key) = (d, leg l r) := kcell_injective he
  exact h r (congrArg Prod.snd h2)
/-- one of that leg a block's transfer if it is that neighbour's. -/
theorem due_same (d c : Dev nD) (l r : Fin 4) : due (fun r => kcell (d, leg l r)) 0 (kcell (c, leg l r)) () = if c = d then N else 0 := by
  rw [due_at]
  by_cases hd : c = d
  · subst hd
    rw [if_pos rfl, Finset.sum_eq_single r]
    · exact if_pos rfl
    · refine fun r' _ hr => if_neg fun he => hr ?_
      have h2 : ((c, leg l r) : Dev nD × Key) = (c, leg l r') := kcell_injective he
      have h3 : (leg l r : Key) = leg l r' := congrArg Prod.snd h2
      exact ((Prod.mk.inj (Sum.inl.inj (Sum.inr.inj h3))).2).symm
    · exact fun h => absurd (Finset.mem_filter.mpr ⟨Finset.mem_univ r, Nat.zero_le r.val⟩) h
  · rw [if_neg hd]
    refine Finset.sum_eq_zero fun r' _ => if_neg fun he => hd ?_
    have h2 : ((c, leg l r) : Dev nD × Key) = (d, leg l r') := kcell_injective he
    exact congrArg Prod.fst h2
theorem tally_bar (d c : Dev nD) (k : Key) : (tallyAt (barC d) () 1 : CellTallies nD τ sig Unit) (kcell (c, k)) () = if c = d ∧ k = bar then 1 else 0 := by
  rw [tallyAt_apply]
  refine if_congr ⟨fun h => ?_, fun h => ?_⟩ rfl rfl
  · have h2 : ((c, k) : Dev nD × Key) = (d, bar) := kcell_injective h.1
    exact ⟨congrArg Prod.fst h2, congrArg Prod.snd h2⟩
  · rw [h.1, h.2]; exact ⟨rfl, rfl⟩

/-- What device `d` owes a cell of device `c`. -/
theorem owed (d c : Dev nD) (k : Key) : ow₀ d (kcell (c, k)) ()
    = due (fun r => kcell (xnbr d, leg 3 r)) 0 (kcell (c, k)) () + due (fun r => kcell (ynbr d, leg 1 r)) 0 (kcell (c, k)) ()
      + (if c = xnbr d ∧ k = bar then 1 else 0) + (if c = ynbr d ∧ k = bar then 1 else 0) := by
  rw [← tally_bar, ← tally_bar]; rfl

theorem eq_xnbr (d c : Dev nD) : c = xnbr d ↔ d = xnbr c := by revert d c; decide
theorem eq_ynbr (d c : Dev nD) : c = ynbr d ↔ d = ynbr c := by revert d c; decide

theorem owed_bar (c : Dev nD) : ∑ d : Dev nD, ow₀ d (kcell (c, bar)) () = 2 := by
  have h (d : Dev nD) : ow₀ d (kcell (c, bar)) () = (if d = xnbr c then 1 else 0) + (if d = ynbr c then 1 else 0) := by
    rw [owed, due_other _ _ _ _ (by decide), due_other _ _ _ _ (by decide)]
    simp only [eq_xnbr d c, eq_ynbr d c, and_true, Nat.zero_add]
  rw [Finset.sum_congr rfl fun d _ => h d, Finset.sum_add_distrib, Finset.sum_ite_eq' Finset.univ (xnbr c) fun _ => 1,
    Finset.sum_ite_eq' Finset.univ (ynbr c) fun _ => 1, if_pos (Finset.mem_univ _), if_pos (Finset.mem_univ _)]
theorem owed_yRecv (c : Dev nD) (r : Fin 4) : ∑ d : Dev nD, ow₀ d (kcell (c, leg 1 r)) () = N := by
  have hne : ∀ r', leg 1 r ≠ leg 3 r' := by revert r; decide
  have hb : leg 1 r ≠ bar := by revert r; decide
  have h (d : Dev nD) : ow₀ d (kcell (c, leg 1 r)) () = if d = ynbr c then N else 0 := by
    rw [owed, due_other _ _ _ _ hne, due_same]
    simp only [hb, and_false, if_false, eq_ynbr d c, Nat.zero_add, Nat.add_zero]
  rw [Finset.sum_congr rfl fun d _ => h d, Finset.sum_ite_eq' Finset.univ (ynbr c) fun _ => N, if_pos (Finset.mem_univ _)]
theorem owed_fRecv (c : Dev nD) (r : Fin 4) : ∑ d : Dev nD, ow₀ d (kcell (c, leg 3 r)) () = N := by
  have hne : ∀ r', leg 3 r ≠ leg 1 r' := by revert r; decide
  have hb : leg 3 r ≠ bar := by revert r; decide
  have h (d : Dev nD) : ow₀ d (kcell (c, leg 3 r)) () = if d = xnbr c then N else 0 := by
    rw [owed, due_other _ _ _ _ hne, due_same]
    simp only [hb, and_false, if_false, eq_xnbr d c, Nat.zero_add, Nat.add_zero]
  rw [Finset.sum_congr rfl fun d _ => h d, Finset.sum_ite_eq' Finset.univ (xnbr c) fun _ => N, if_pos (Finset.mem_univ _)]

omit [FloatOps F] in
/-- A cell's launch credit is what all devices owe it. -/
theorem credit_eq (c : Dev nD) (k : Key) {a : ℕ} (h : ∑ d : Dev nD, ow₀ d (kcell (c, k)) () = a) :
    (cred (tallyOn (kcell (c, k)) (launchCredit (Pipeline.owing ow₀) 0 (kcell (c, k)))) : sProp 𝕄) = cred (tallyAt (kcell (c, k)) () a) := by
  unfold tallyAt
  refine congrArg (fun x => cred (tallyOn (kcell (c, k)) x)) (Finsupp.ext fun u => ?_)
  cases u
  rw [Pipeline.launchCredit_owing, Finsupp.single_eq_same, h]

omit [FloatOps F] in
theorem creds_intro (c : Dev nD) : (Pipeline.launchCred ow₀ c : sProp 𝕄) ⊢ creds c := by
  have hs : (Pipeline.launchCred ow₀ c : sProp 𝕄)
      ⊢ bigSep (Finset.univ.map ⟨csem, csem_injective⟩) fun sm : SemLoc sig => cred (tallyOn ((c : Thread nD τ), sm) (launchCredit (Pipeline.owing ow₀) 0 ((c : Thread nD τ), sm))) := by
    unfold Pipeline.launchCred; exact bigSep_subset (Finset.subset_univ _)
  rw [bigSep_map, bigSep_key] at hs
  refine hs.trans ?_
  unfold byKey creds
  iintro ⟨Hb, -, H1, -, H3, -⟩
  isplitl [Hb]
  · ihave Hb := (Entails.of_eq (credit_eq (F := F) c bar (owed_bar c))) $$ Hb
    iexact Hb
  isplitl [H1]
  · ihave H1 := (Entails.of_eq (bigSep_congr fun r _ => credit_eq (F := F) c (leg 1 r) (owed_yRecv c r))) $$ H1
    iexact H1
  · ihave H3 := (Entails.of_eq (bigSep_congr fun r _ => credit_eq (F := F) c (leg 3 r) (owed_fRecv c r))) $$ H3
    iexact H3

end Cert.AllReduceNorm

end
-- ==== Proof.Launch.lean ====
/-
# The run

What the pipeline holds between its steps (`dats`), the body against it (`body_obligation`), and the whole launch: every run
ends with every device's result at `normed`, its arguments unchanged and every semaphore at zero (`run_main`).
-/
module

public import proofs.«01_k».proof.Proof.Dealt
public import Idealize.ShloMosaic.Lib.Pipeline.CollectiveSegs
public import proofs.«01_k».proof.Proof.Gen.KernelIdeal.Launch
public import proofs.«01_k».proof.Proof.Gen.KernelIdeal.Points

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is held around the body -/

/-- Before: what the launch dealt, the levels, the credit, the residual and the scratch buffers. -/
def start (c : Dev nD) : sProp 𝕄 := iprop((∃ K, records m K ∗ posns c ∗ payToks c) ∗ creds c ∗ xPts c (resid m c))
def Φ₀ (c : Dev nD) : sProp 𝕄 := iprop(start m c ∗ scratch c)
/-- After: every semaphore at zero, the residual and the scratch buffers. -/
def Φ₁ (c : Dev nD) : sProp 𝕄 :=
  iprop((bigSep Finset.univ fun k : Key => (semVal (kcell (c, k)) 0 : sProp 𝕄)) ∗ xPts c (resid m c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => part m c
    | ⟨1, _⟩ => wts m c
    | ⟨2, _⟩ => normed m c
  Φ t := match t with
    | ⟨0, _⟩ => Φ₀ m c
    | ⟨_ + 1, _⟩ => Φ₁ m c
  q _ := fullShare
  owed t := match t with
    | ⟨0, _⟩ => ow₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

theorem before_part (c : Dev nD) (d) : (dats m ρ 0 c).before (0 : Fin 3) t0_0 d = part m c := by
  unfold Dat.before; rw [if_pos (fetch0_0 t0_0)]
  funext i
  refine congrArg (part m c) (funext fun a => Fin.ext ?_)
  match a with
  | ⟨0, _⟩ => show 0 * 1 + 1 * (i 0).val = (i 0).val; omega
  | ⟨1, _⟩ => show 0 * 512 + 1 * (i 1).val = (i 1).val; omega
  | ⟨2, _⟩ => show 0 * 512 + 1 * (i 2).val = (i 2).val; omega
theorem before_wts (c : Dev nD) (d) : (dats m ρ 0 c).before (1 : Fin 3) t0_0 d = wts m c := by
  unfold Dat.before; rw [if_pos (fetch0_1 t0_0)]
  funext i
  refine congrArg (wts m c) (funext fun a => Fin.ext ?_)
  match a with
  | ⟨0, _⟩ => show 0 * 512 + 1 * (i 0).val = (i 0).val; omega

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (part m c) ∗ stg c cc0_stg1_0 (wts m c)
    ∗ stg c cc0_stg2_0 (normed m c))

theorem body_spec (c : Dev nD) : bodyPre m ρ c ⊢ run c (.op .deviceId walk) fun _ => bodyPost m ρ c := by
  unfold run
  rw [wp_deviceId]
  show bodyPre m ρ c ⊢ run c (walk c) fun _ => bodyPost m ρ c
  unfold bodyPre bodyPost Φ₀ Φ₁ start posns
  iintro ⟨⟨⟨⟨%K, HR, Ha, Ht⟩, Hc, Hx⟩, Hs⟩, Ho, ⟨%d0, %g0, %hg0, H0⟩, ⟨%d1, %g1, %hg1, H1⟩, ⟨%d2, %g2, %hg2, H2⟩⟩
  have h0 : g0 = part m c := hg0.trans (before_part m ρ c d0)
  have h1 : g1 = wts m c := hg1.trans (before_wts m ρ c d1)
  subst h0 h1
  unfold Dat.owesAt Pipeline.owesWithin
  icases Ho with ⟨%W, %hW, HO⟩
  rw [show (dats m ρ 0 c).owed t0_0.castSucc = ow₀ c from rfl, show (dats m ρ 0 c).owed t0_0.succ = 0 from rfl]
  iapply (walk_spec m K c g2 fun _ => bodyPost m ρ c) $$ [HR Ha Ht Hc Hx Hs HO H0 H1 H2]
  · isplitl [HR]; · iexact HR
    isplitl [Ha]; · iexact Ha
    isplitl [Ht]; · iexact Ht
    isplitl [Hc]; · iexact Hc
    isplitl [Hx]; · iexact Hx
    isplitl [Hs]; · iexact Hs
    isplitr [HO]
    · unfold staged
      isplitl [H0]; · iexact H0
      isplitl [H1]; · iexact H1
      iexact H2
    unfold owing
    iexists W; iexact HO
  unfold bodyPost Φ₁ staged owing Dat.owesAt Pipeline.owesWithin
  rw [show (dats m ρ 0 c).owed t0_0.succ = 0 from rfl]
  iintro ⟨Hz, Hx, Hs, ⟨H0, H1, H2⟩, ⟨%W', HO⟩⟩
  isplitl [Hz Hx Hs]
  · isplitl [Hz]; · iexact Hz
    isplitl [Hx] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
/-- The body, between the pipeline's fetches and its write-back. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body pM (whole _) xM (whole _) gM (whole _) oM (whole _) sM (whole _) vM (whole _) rM (whole _)
      cc0_scratch3 cc0_scratch4 cc0_scratch5 cc0_scratch6 cc0_scratch7 : Body F) (fun _ => bodyPost m ρ c)
  rw [body_eq_walk]
  exact body_spec m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred ow₀ c ∗ prngReg c (ρ c) ∗ dealt m c)
      ⊢ |={Set.univ}=> iprop(start m c ∗ emp) := by
  rw [Pipeline.unscopedRestP_none, unscopedRest0_eq]
  unfold start dealt cells records xPts
  iintro ⟨Hx, Hlev, Hcr, -, ⟨%K, ⟨HI, HR⟩, Ha, Ht⟩⟩
  ihave Hc := (creds_intro (F := F) c) $$ Hcr
  imodintro
  isplitl
  · isplitr [Hc Hx]
    · iexists K
      isplitr [Ha Ht]
      · isplitl [HI]; · iexact HI
        isplitl [HR] <;> iassumption
      isplitl [Ha] <;> iassumption
    isplitl [Hc]; · iexact Hc
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N)
      ⊢ iprop((unscopedSems0 c ∗ xPts c (resid m c)) ∗ Pipeline.ownSems0 osem c ∗ Pipeline.scopedRest cfg0.spec c) := by
  rw [show (dats m ρ 0 c).Φ (Fin.last cfg0.N) = Φ₁ m c from rfl, scopedRest0_eq]
  unfold Φ₁ scratch
  rw [sems0_eq]
  iintro ⟨⟨Hu, Ho⟩, Hx, Hs⟩
  isplitl [Hu Hx]
  · isplitl [Hu] <;> iassumption
  isplitl [Ho]; · iexact Ho
  iexact Hs

omit [FloatOps F] in
theorem mayWait_zero (c : Dev nD) (sm : SemLoc sig) : (levAts L lv : sProp 𝕄) ⊢ MayWait (c : Thread nD τ) sm () 0 :=
  mayWait_lt c sm 0 fun g u h => absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_ow₀ c _ (by fin_cases w <;> fin_cases s <;> decide)
    · exact mayWait_zero c _

/-! ## The run -/

/-- What a window's array holds after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = resid m c

omit [FloatOps F] in
/-- What a device's final holdings say of the final state. -/
theorem final_read (c : Dev nD) (s' : Phys nD τ sig (Elt F)) :
    iprop((unscopedSems0 c ∗ xPts c (resid m c)) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = resid m c⌝ ∗ SI s') : sProp 𝕄) := by
  unfold xPts
  iintro ⟨⟨Hu, Hx⟩, -, HSI⟩
  icombine HSI Hx gives %hx
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx⟩
  iexact HSI

set_option maxRecDepth 8000 in
/-- From any memory with zero counters, on the mesh of eight devices and for any float values: every run of @main ends, each
    device's windows at `finalA`, the residual unchanged, every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := ow₀) (howed₀ := fun _ => rfl) (howedN := fun _ => rfl)
    (L := L) (lv := lv) (hL := L_of_ne) (hwaits := waits m ρ)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => iprop(unscopedSems0 c ∗ xPts c (resid m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = resid m c)
    (hY := final_read m)
    (hQ := fun _ h hs => ⟨fun c => ⟨fun w => (h c).1 w, (h c).2.2.2⟩, sem_eq_zero hs fun c => (h c).2.2.1⟩)

/-! ## The arrays after it -/

theorem finalA_part (c : Dev nD) : finalA m ρ c (0 : Fin 3) = part m c := (dats (F := F) m ρ 0 c).arrAt_in (0 : Fin 3) rfl _
theorem finalA_wts (c : Dev nD) : finalA m ρ c (1 : Fin 3) = wts m c := (dats (F := F) m ρ 0 c).arrAt_in (1 : Fin 3) rfl _

end Cert.AllReduceNorm

end
-- ==== Proof.Value.lean ====
/-
# What the devices hold at the end is what the reference computes

`run_read`: the run of the kernel, read at its arguments and its result. `run_reference`: the run of the reference, its result
in closed form (`result`). `normed_eq`: where each device's partial sum is its part of the whole argument, what a device holds
at the end (`normed`) is that closed form, the same on every device: its own partial sum and the one that landed are the two
parts in some order, and the order does not matter; a block of 64 rows is normalised row by row; and the two forms of the
normalisation agree (`scaled_eq`).
-/
module

public import proofs.«01_k».proof.Proof.Norm
public import proofs.«01_k».proof.Proof.Launch
public import proofs.«01_k».proof.Proof.Gen.ReferenceIdeal.Run
public import Idealize.ShloMosaic.Lib.Layout
public import Idealize.ShloMosaic.Lib.Pointwise
public import Idealize.ShloMosaic.Lib.Pipeline.ValueKit

@[expose] public section

noncomputable section

namespace Cert.AllReduceNorm

open Cert.KernelIdeal Cert.KernelIdeal.Gen
open Idealize.ShloMosaic Idealize.ShloMosaic.TcCoe
open Idealize.SL Idealize.SL.Sem

section
variable {F : FTy → Type} [FloatOps F]
variable (m : (ℓ : Loc nD τ sig) → Buf (Elt F) ℓ) (ρ : Dev nD → PrngReg)

/-- The result's array is written back whole, once. -/
theorem finalA_out (c : Dev nD) : finalA m ρ c (2 : Fin 3) = normed m c := by
  refine (dats m ρ 0 c).arrAt_eq_of_after_last (2 : Fin 3) t0_0 (by decide +kernel) _ fun j => ?_
  blk_simp
  rfl

/-- Every run of the kernel, from any memory with zero counters and for any float values: each device's result is `normed`, its
    arguments are unchanged, every semaphore is at zero. -/
theorem run_read : θ_run defs (onTc (τ := τ) (main (F := F))) ⟨m, fun _ => 0, ρ⟩ (fun r =>
    (∀ c : Dev nD, r.2.mem ((c.tc : Thread nD τ).loc main_v1) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨((h.1 c).1 (2 : Fin 3)).trans (finalA_out m ρ c),
    ((h.1 c).1 (0 : Fin 3)).trans (finalA_part m ρ c), (h.1 c).2, ((h.1 c).1 (1 : Fin 3)).trans (finalA_wts m ρ c)⟩, h.2⟩)
    (run_main m ρ)
end

/-- One block's normalisation, at an element. -/
theorem pay6_apply (p : Vec Ideal S1x64x512 .bf16) (v : Vec Ideal S64x512 .bf16) (r : Vec Ideal S64x512 .f32) (g : Vec Ideal S512 .bf16)
    (x : S64x512.Idx) :
    k0_pay6 p v r g x = scaled (fun k => p (ix3 (0 : Fin 1) (x 0) k) + v (ix2 (x 0) k) + r (ix2 (x 0) k)) (g (ix1 (x 1))) (x 1) := by
  unfold k0_pay6 scaled radicand
  pointwise

/-- The rows before the normalisation: the two partial sums and the residual. -/
def summed (P : ReferenceIdeal.S2x512x512.Idx → EReal) (R : S512x512.Idx → EReal) (i : Fin 512) : Fin 512 → EReal := fun k =>
  P (ix3 (0 : Fin 2) i k) + P (ix3 (1 : Fin 2) i k) + R (ix2 i k)
/-- The result, as a function of the whole arguments. -/
def result (P : ReferenceIdeal.S2x512x512.Idx → EReal) (R : S512x512.Idx → EReal) (G : S512.Idx → EReal) : S512x512.Idx → EReal := fun i =>
  scaled (summed P R (i 0)) (G (ix1 (i 1))) (i 1)

section
variable (m' : (ℓ : Loc ReferenceIdeal.nD ReferenceIdeal.τ ReferenceIdeal.sig) → Buf (Elt Ideal) ℓ) (ρ' : Dev ReferenceIdeal.nD → PrngReg)

/-- Every run of the reference: its result is `result` of its arguments, which are unchanged. -/
theorem run_reference :
    θ_run ReferenceIdeal.defs (onTc (τ := ReferenceIdeal.τ) (ReferenceIdeal.main (F := Ideal))) ⟨m', fun _ => 0, ρ'⟩ fun r =>
      ∀ c : Dev ReferenceIdeal.nD,
        r.2.mem ((c.tc : Thread ReferenceIdeal.nD ReferenceIdeal.τ).loc ReferenceIdeal.main_v17)
            = result (m' ((c.tc : Thread ReferenceIdeal.nD ReferenceIdeal.τ).loc ReferenceIdeal.main_arg0))
                (m' ((c.tc : Thread ReferenceIdeal.nD ReferenceIdeal.τ).loc ReferenceIdeal.main_arg1))
                (m' ((c.tc : Thread ReferenceIdeal.nD ReferenceIdeal.τ).loc ReferenceIdeal.main_arg2))
          ∧ r.2.mem ((c.tc : Thread ReferenceIdeal.nD ReferenceIdeal.τ).loc ReferenceIdeal.main_arg0) = m' ((c.tc : Thread ReferenceIdeal.nD ReferenceIdeal.τ).loc ReferenceIdeal.main_arg0)
          ∧ r.2.mem ((c.tc : Thread ReferenceIdeal.nD ReferenceIdeal.τ).loc ReferenceIdeal.main_arg1) = m' ((c.tc : Thread ReferenceIdeal.nD ReferenceIdeal.τ).loc ReferenceIdeal.main_arg1)
          ∧ r.2.mem ((c.tc : Thread ReferenceIdeal.nD ReferenceIdeal.τ).loc ReferenceIdeal.main_arg2) = m' ((c.tc : Thread ReferenceIdeal.nD ReferenceIdeal.τ).loc ReferenceIdeal.main_arg2) :=
  (θ_run ReferenceIdeal.defs _ _).mono (fun _ h c => ⟨(h c).1.trans (by
    funext i
    refine Eq.trans ?_ (scaled_eq _ _ _).symm
    unfold radicand summed
    pointwise
    simp only [Fin.sum_univ_two, zero_add]), (h c).2⟩)
    (ReferenceIdeal.Value.run m' ρ')
end

section
variable (m : (ℓ : Loc nD τ sig) → Buf (Elt Ideal) ℓ)

/-- Device `c`'s partial sum is the part of `P` at its coordinate along y. -/
theorem part_at (P : ReferenceIdeal.S2x512x512.Idx → EReal) (c : Dev nD)
    (hP : part m c = Layout.blockN ⟨3, ![1, 512, 512]⟩ ⟨3, ![2, 512, 512]⟩ (Layout.meshBlock [2, 2, 2] ![[1], [], []] c) P)
    (y : Fin 2) (hy : c.val / 2 % 2 = y.val) (i k : Fin 512) :
    part m c (ix3 (0 : Fin 1) i k) = P (ix3 y i k) := by
  rw [hP, Layout.blockN_apply]
  congr 1
  funext a
  refine Fin.ext ?_
  rw [Layout.TilesN.idx_val]
  match a with
  | ⟨0, _⟩ => show (c.val / 2 % 2 * 1 + 0) * 1 + 0 = y.val; omega
  | ⟨1, _⟩ => show 0 * 512 + i.val = i.val; omega
  | ⟨2, _⟩ => show 0 * 512 + k.val = k.val; omega

/-- A device's y neighbour, and its x neighbour's, have the other coordinate along y. -/
theorem ynbr_y (c : Dev nD) : (ynbr c).val / 2 % 2 = 1 - c.val / 2 % 2 := by revert c; decide
theorem ynbr_xnbr_y (c : Dev nD) : (ynbr (xnbr c)).val / 2 % 2 = 1 - c.val / 2 % 2 := by revert c; decide

/-- Where every device holds its part of `P`, a device's partial sum and what landed on it add up to both parts of `P`. -/
theorem own_add_landed (P : ReferenceIdeal.S2x512x512.Idx → EReal)
    (hP : ∀ c : Dev nD, part m c = Layout.blockN ⟨3, ![1, 512, 512]⟩ ⟨3, ![2, 512, 512]⟩ (Layout.meshBlock [2, 2, 2] ![[1], [], []] c) P)
    (c : Dev nD) (i k : Fin 512) :
    (part m c (ix3 (0 : Fin 1) i k) + landed m c (ix2 i k) : EReal) = P (ix3 (0 : Fin 2) i k) + P (ix3 (1 : Fin 2) i k) := by
  have hl (y : Fin 2) (hy : 1 - c.val / 2 % 2 = y.val) : landed m c (ix2 i k) = P (ix3 y i k) := by
    unfold landed
    split
    · exact part_at m P (ynbr c) (hP _) y ((ynbr_y c).trans hy) i k
    · exact part_at m P (ynbr (xnbr c)) (hP _) y ((ynbr_xnbr_y c).trans hy) i k
  rcases Nat.mod_two_eq_zero_or_one (c.val / 2) with h | h
  · rw [part_at m P c (hP c) 0 h, hl 1 (by rw [h]; rfl)]
  · rw [part_at m P c (hP c) 1 h, hl 0 (by rw [h]; rfl), add_comm]

/-- Then every device ends with the same result, the reference's. -/
theorem normed_eq (P : ReferenceIdeal.S2x512x512.Idx → EReal)
    (hP : ∀ c : Dev nD, part m c = Layout.blockN ⟨3, ![1, 512, 512]⟩ ⟨3, ![2, 512, 512]⟩ (Layout.meshBlock [2, 2, 2] ![[1], [], []] c) P)
    (c : Dev nD) : normed m c = result P (resid m c) (wts m c) := by
  funext i
  have hi : 64 * ((i 0).val / 64) + (i 0).val % 64 = (i 0).val := Nat.div_add_mod _ _
  unfold normed result
  rw [pay6_apply]
  have e : (⟨64 * (blkOf i).val + (inBlk i 0).val, by rw [show 64 * (blkOf i).val + (inBlk i 0).val = (i 0).val from hi]; exact (i 0).isLt⟩ : Fin 512) = i 0 :=
    Fin.ext hi
  congr 1
  funext k
  refine Eq.trans ?_ (congrArg (· + resid m c (ix2 (i 0) k)) (own_add_landed m P hP c (i 0) k))
  show part m c (ix3 (0 : Fin 1) ⟨64 * (blkOf i).val + (inBlk i 0).val, _⟩ k) + landed m c (ix2 ⟨64 * (blkOf i).val + (inBlk i 0).val, _⟩ k)
      + resid m c (ix2 ⟨64 * (blkOf i).val + (inBlk i 0).val, _⟩ k) = _
  rw [e]
end

end Cert.AllReduceNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.AllReduceNorm

/-- The kernel as printed and the idealized kernel are one text: their bodies, -/
theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (_, _) => rfl
/-- and the calls around them. -/
theorem defs_same : Cert.Kernel.defs (F := Bits) = Cert.KernelIdeal.defs (F := Bits) := congrArg (Pipeline.defs _) defs₀_same

/-- The kernel as printed: the run proved for any float values, at machine words. -/
theorem frame_kernel : Cert.quiescent_Kernel := by
  intro m ρ _
  rw [defs_same]
  exact (θ_run Cert.KernelIdeal.defs _ _).mono (fun _ h => ⟨fun c => (h.1 c).2, h.2⟩) (run_read (F := Bits) m ρ)

/-- The idealized kernel: the same run over the extended reals. -/
theorem frame_kernelIdeal : Cert.quiescent_KernelIdeal := fun m ρ _ =>
  (θ_run Cert.KernelIdeal.defs _ _).mono (fun _ h => ⟨fun c => (h.1 c).2, h.2⟩) (run_read (F := Ideal) m ρ)

/-- The reference: host operations alone, and no semaphore declared. -/
theorem frame_reference : Cert.quiescent_ReferenceIdeal := fun m ρ _ =>
  (θ_run Cert.ReferenceIdeal.defs _ _).mono (fun r h => ⟨fun c => (h c).2, sem_eq_zero_of_no_sems (by decide) r.2⟩)
    (run_reference m ρ)

/-- Every device of the kernel ends with the reference's result. -/
theorem value : Cert.algebraic_KernelIdeal_ReferenceIdeal := fun m ρ m' ρ' _ hm =>
  ⟨result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).1.trans
        ((normed_eq m _ (fun c => (hm c).1) c).trans (congrArg₂ (result _) (hm c).2.1 (hm c).2.2)), (h.1 c).2⟩)
      (run_read (F := Ideal) m ρ),
    (θ_run Cert.ReferenceIdeal.defs _ _).mono (fun _ h => h 0) (run_reference m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
